-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S65536x1024 : Shape := ⟨2, ![65536, 1024]⟩
abbrev S2x2048x1024 : Shape := ⟨3, ![2, 2048, 1024]⟩
abbrev S2 : Shape := ⟨1, ![2]⟩
abbrev S23 : Shape := ⟨1, ![23]⟩
abbrev S16 : Shape := ⟨1, ![16]⟩
abbrev S5 : Shape := ⟨1, ![5]⟩
abbrev S4 : Shape := ⟨1, ![4]⟩
abbrev S_ : Shape := ⟨0, ![]⟩
abbrev S1 : Shape := ⟨1, ![1]⟩
abbrev S512x1024 : Shape := ⟨2, ![512, 1024]⟩
abbrev S1x2048x1024 : Shape := ⟨3, ![1, 2048, 1024]⟩
abbrev S2048x1024 : Shape := ⟨2, ![2048, 1024]⟩

abbrev nBuf : Space → Nat
  | .hbm => 2
  | .vmem => 1
  | .smem => 0
  | _ => 0

abbrev bufTy : (tb : Table) → Fin (tcTables nBuf tb) → BufTy
  | .hbm, ⟨0, _⟩ => ⟨S32768x1024, .f32⟩
  | .hbm, ⟨1, _⟩ => ⟨S65536x1024, .f32⟩
  | .local _ .vmem, ⟨0, _⟩ => ⟨S2x2048x1024, .f32⟩
  | _, _ => ⟨S32768x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) (c0_i32_24 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c32768_i32_25 : BitVec 32 := 32768#32
  let v42 : BitVec 32 := Scalar.muli v2 c32768_i32_25
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c8192_i32 : BitVec 32 := 8192#32
  let v40 : BitVec 32 := Scalar.muli v32 c8192_i32
  let v41 : BitVec 32 := Scalar.addi v40 c0_i32_24
  let v43 : BitVec 32 := Scalar.addi v42 v41
  let c0_i32_32 : BitVec 32 := 0#32
  ![v43.toNat, 0]
def k0_off2 (d0 : Dev nD) (c0_i32_24 : BitVec 32) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c8192_i32 : BitVec 32 := 8192#32
  let v40 : BitVec 32 := Scalar.muli v32 c8192_i32
  let v41 : BitVec 32 := Scalar.addi v40 c0_i32_24
  let c0_i32_33 : BitVec 32 := 0#32
  ![v41.toNat, 0]
def k0_dev4 (d0 : Dev nD) : Nat :=
  let c0_i32_29 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_28 : BitVec 32 := 4#32
  let v44 : BitVec 32 := Scalar.muli v9 c4_i32_28
  let v45 : BitVec 32 := Scalar.addi c0_i32_29 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v46 : BitVec 32 := Scalar.muli v5 c2_i32_30
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v48 : BitVec 32 := Scalar.muli v8 c1_i32_31
  let v49 : BitVec 32 := Scalar.addi v47 v48
  v49.toNat
def k0_dev5 (d0 : Dev nD) : Nat :=
  let c0_i32_39 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_38 : BitVec 32 := 4#32
  let v60 : BitVec 32 := Scalar.muli v9 c4_i32_38
  let v61 : BitVec 32 := Scalar.addi c0_i32_39 v60
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v62 : BitVec 32 := Scalar.muli v5 c2_i32_40
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v64 : BitVec 32 := Scalar.muli v8 c1_i32_41
  let v65 : BitVec 32 := Scalar.addi v63 v64
  v65.toNat
def k0_dev6 (d0 : Dev nD) : Nat :=
  let c0_i32_49 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_48 : BitVec 32 := 4#32
  let v76 : BitVec 32 := Scalar.muli v9 c4_i32_48
  let v77 : BitVec 32 := Scalar.addi c0_i32_49 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v78 : BitVec 32 := Scalar.muli v5 c2_i32_50
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v80 : BitVec 32 := Scalar.muli v8 c1_i32_51
  let v81 : BitVec 32 := Scalar.addi v79 v80
  v81.toNat
def k0_dev7 (d0 : Dev nD) : Nat :=
  let c0_i32_59 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_58 : BitVec 32 := 4#32
  let v92 : BitVec 32 := Scalar.muli v9 c4_i32_58
  let v93 : BitVec 32 := Scalar.addi c0_i32_59 v92
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v94 : BitVec 32 := Scalar.muli v5 c2_i32_60
  let v95 : BitVec 32 := Scalar.addi v93 v94
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v96 : BitVec 32 := Scalar.muli v8 c1_i32_61
  let v97 : BitVec 32 := Scalar.addi v95 v96
  v97.toNat
def k0_dev8 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v108 : BitVec 32 := Scalar.muli v9 c4_i32_68
  let v109 : BitVec 32 := Scalar.addi c0_i32_69 v108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v110 : BitVec 32 := Scalar.muli v5 c2_i32_70
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v112 : BitVec 32 := Scalar.muli v8 c1_i32_71
  let v113 : BitVec 32 := Scalar.addi v111 v112
  v113.toNat
def k0_dev9 (d0 : Dev nD) : Nat :=
  let c0_i32_78 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_77 : BitVec 32 := 4#32
  let v124 : BitVec 32 := Scalar.muli v9 c4_i32_77
  let v125 : BitVec 32 := Scalar.addi c0_i32_78 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v126 : BitVec 32 := Scalar.muli v5 c2_i32_79
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v128 : BitVec 32 := Scalar.muli v8 c1_i32_80
  let v129 : BitVec 32 := Scalar.addi v127 v128
  v129.toNat
def k0_dev10 (d0 : Dev nD) : Nat :=
  let c0_i32_87 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_86 : BitVec 32 := 4#32
  let v140 : BitVec 32 := Scalar.muli v9 c4_i32_86
  let v141 : BitVec 32 := Scalar.addi c0_i32_87 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_88 : BitVec 32 := 2#32
  let v142 : BitVec 32 := Scalar.muli v5 c2_i32_88
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v144 : BitVec 32 := Scalar.muli v8 c1_i32_89
  let v145 : BitVec 32 := Scalar.addi v143 v144
  v145.toNat
def k0_dev11 (d0 : Dev nD) : Nat :=
  let c0_i32_96 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_95 : BitVec 32 := 4#32
  let v156 : BitVec 32 := Scalar.muli v9 c4_i32_95
  let v157 : BitVec 32 := Scalar.addi c0_i32_96 v156
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_97 : BitVec 32 := 2#32
  let v158 : BitVec 32 := Scalar.muli v5 c2_i32_97
  let v159 : BitVec 32 := Scalar.addi v157 v158
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v160 : BitVec 32 := Scalar.muli v8 c1_i32_98
  let v161 : BitVec 32 := Scalar.addi v159 v160
  v161.toNat
def k0_dev12 (d0 : Dev nD) : Nat :=
  let c0_i32_105 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_104 : BitVec 32 := 4#32
  let v172 : BitVec 32 := Scalar.muli v9 c4_i32_104
  let v173 : BitVec 32 := Scalar.addi c0_i32_105 v172
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v174 : BitVec 32 := Scalar.muli v5 c2_i32_106
  let v175 : BitVec 32 := Scalar.addi v173 v174
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v176 : BitVec 32 := Scalar.muli v8 c1_i32_107
  let v177 : BitVec 32 := Scalar.addi v175 v176
  v177.toNat
def k0_dev13 (d0 : Dev nD) : Nat :=
  let c0_i32_114 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_113 : BitVec 32 := 4#32
  let v188 : BitVec 32 := Scalar.muli v9 c4_i32_113
  let v189 : BitVec 32 := Scalar.addi c0_i32_114 v188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v190 : BitVec 32 := Scalar.muli v5 c2_i32_115
  let v191 : BitVec 32 := Scalar.addi v189 v190
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v192 : BitVec 32 := Scalar.muli v8 c1_i32_116
  let v193 : BitVec 32 := Scalar.addi v191 v192
  v193.toNat
def k0_dev14 (d0 : Dev nD) : Nat :=
  let c0_i32_123 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_122 : BitVec 32 := 4#32
  let v204 : BitVec 32 := Scalar.muli v9 c4_i32_122
  let v205 : BitVec 32 := Scalar.addi c0_i32_123 v204
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_124 : BitVec 32 := 2#32
  let v206 : BitVec 32 := Scalar.muli v5 c2_i32_124
  let v207 : BitVec 32 := Scalar.addi v205 v206
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v208 : BitVec 32 := Scalar.muli v8 c1_i32_125
  let v209 : BitVec 32 := Scalar.addi v207 v208
  v209.toNat
def k0_dev15 (d0 : Dev nD) : Nat :=
  let c0_i32_132 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_131 : BitVec 32 := 4#32
  let v220 : BitVec 32 := Scalar.muli v9 c4_i32_131
  let v221 : BitVec 32 := Scalar.addi c0_i32_132 v220
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_133 : BitVec 32 := 2#32
  let v222 : BitVec 32 := Scalar.muli v5 c2_i32_133
  let v223 : BitVec 32 := Scalar.addi v221 v222
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v224 : BitVec 32 := Scalar.muli v8 c1_i32_134
  let v225 : BitVec 32 := Scalar.addi v223 v224
  v225.toNat
def k0_dev16 (d0 : Dev nD) : Nat :=
  let c0_i32_141 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_140 : BitVec 32 := 4#32
  let v236 : BitVec 32 := Scalar.muli v9 c4_i32_140
  let v237 : BitVec 32 := Scalar.addi c0_i32_141 v236
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v238 : BitVec 32 := Scalar.muli v5 c2_i32_142
  let v239 : BitVec 32 := Scalar.addi v237 v238
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v240 : BitVec 32 := Scalar.muli v8 c1_i32_143
  let v241 : BitVec 32 := Scalar.addi v239 v240
  v241.toNat
def k0_dev17 (d0 : Dev nD) : Nat :=
  let c0_i32_150 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_149 : BitVec 32 := 4#32
  let v252 : BitVec 32 := Scalar.muli v9 c4_i32_149
  let v253 : BitVec 32 := Scalar.addi c0_i32_150 v252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v254 : BitVec 32 := Scalar.muli v5 c2_i32_151
  let v255 : BitVec 32 := Scalar.addi v253 v254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v256 : BitVec 32 := Scalar.muli v8 c1_i32_152
  let v257 : BitVec 32 := Scalar.addi v255 v256
  v257.toNat
def k0_dev18 (d0 : Dev nD) : Nat :=
  let c0_i32_159 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_158 : BitVec 32 := 4#32
  let v268 : BitVec 32 := Scalar.muli v9 c4_i32_158
  let v269 : BitVec 32 := Scalar.addi c0_i32_159 v268
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_160 : BitVec 32 := 2#32
  let v270 : BitVec 32 := Scalar.muli v5 c2_i32_160
  let v271 : BitVec 32 := Scalar.addi v269 v270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v272 : BitVec 32 := Scalar.muli v8 c1_i32_161
  let v273 : BitVec 32 := Scalar.addi v271 v272
  v273.toNat
def k0_dev19 (d0 : Dev nD) : Nat :=
  let c0_i32_168 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_167 : BitVec 32 := 4#32
  let v284 : BitVec 32 := Scalar.muli v9 c4_i32_167
  let v285 : BitVec 32 := Scalar.addi c0_i32_168 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v286 : BitVec 32 := Scalar.muli v5 c2_i32_169
  let v287 : BitVec 32 := Scalar.addi v285 v286
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v288 : BitVec 32 := Scalar.muli v8 c1_i32_170
  let v289 : BitVec 32 := Scalar.addi v287 v288
  v289.toNat
def k0_off3 (d0 : Dev nD) (c0_i32_174 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c32768_i32_175 : BitVec 32 := 32768#32
  let v298 : BitVec 32 := Scalar.muli v2 c32768_i32_175
  let c2_i32_23 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v37 : BitVec 32 := Scalar.muli c2_i32_23 v10
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let v38 : BitVec 32 := Scalar.addi v37 v11
  let c8192_i32_173 : BitVec 32 := 8192#32
  let v296 : BitVec 32 := Scalar.muli v38 c8192_i32_173
  let v297 : BitVec 32 := Scalar.addi v296 c0_i32_174
  let v299 : BitVec 32 := Scalar.addi v298 v297
  let c0_i32_181 : BitVec 32 := 0#32
  ![v299.toNat, 0]
def k0_off4 (d0 : Dev nD) (c0_i32_174 : BitVec 32) : Fin 2 → Nat :=
  let c2_i32_23 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v37 : BitVec 32 := Scalar.muli c2_i32_23 v10
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let v38 : BitVec 32 := Scalar.addi v37 v11
  let c8192_i32_173 : BitVec 32 := 8192#32
  let v296 : BitVec 32 := Scalar.muli v38 c8192_i32_173
  let v297 : BitVec 32 := Scalar.addi v296 c0_i32_174
  let c0_i32_182 : BitVec 32 := 0#32
  ![v297.toNat, 0]
def k0_dev20 (d0 : Dev nD) : Nat :=
  let c0_i32_178 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_177 : BitVec 32 := 4#32
  let v300 : BitVec 32 := Scalar.muli v9 c4_i32_177
  let v301 : BitVec 32 := Scalar.addi c0_i32_178 v300
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_179 : BitVec 32 := 2#32
  let v302 : BitVec 32 := Scalar.muli v5 c2_i32_179
  let v303 : BitVec 32 := Scalar.addi v301 v302
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_180 : BitVec 32 := 1#32
  let v304 : BitVec 32 := Scalar.muli v8 c1_i32_180
  let v305 : BitVec 32 := Scalar.addi v303 v304
  v305.toNat
def k0_dev21 (d0 : Dev nD) : Nat :=
  let c0_i32_188 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_187 : BitVec 32 := 4#32
  let v316 : BitVec 32 := Scalar.muli v9 c4_i32_187
  let v317 : BitVec 32 := Scalar.addi c0_i32_188 v316
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_189 : BitVec 32 := 2#32
  let v318 : BitVec 32 := Scalar.muli v5 c2_i32_189
  let v319 : BitVec 32 := Scalar.addi v317 v318
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_190 : BitVec 32 := 1#32
  let v320 : BitVec 32 := Scalar.muli v8 c1_i32_190
  let v321 : BitVec 32 := Scalar.addi v319 v320
  v321.toNat
def k0_dev22 (d0 : Dev nD) : Nat :=
  let c0_i32_198 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_197 : BitVec 32 := 4#32
  let v332 : BitVec 32 := Scalar.muli v9 c4_i32_197
  let v333 : BitVec 32 := Scalar.addi c0_i32_198 v332
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_199 : BitVec 32 := 2#32
  let v334 : BitVec 32 := Scalar.muli v5 c2_i32_199
  let v335 : BitVec 32 := Scalar.addi v333 v334
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v336 : BitVec 32 := Scalar.muli v8 c1_i32_200
  let v337 : BitVec 32 := Scalar.addi v335 v336
  v337.toNat
def k0_dev23 (d0 : Dev nD) : Nat :=
  let c0_i32_208 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_207 : BitVec 32 := 4#32
  let v348 : BitVec 32 := Scalar.muli v9 c4_i32_207
  let v349 : BitVec 32 := Scalar.addi c0_i32_208 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v350 : BitVec 32 := Scalar.muli v5 c2_i32_209
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v352 : BitVec 32 := Scalar.muli v8 c1_i32_210
  let v353 : BitVec 32 := Scalar.addi v351 v352
  v353.toNat
def k0_dev24 (d0 : Dev nD) : Nat :=
  let c0_i32_218 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_217 : BitVec 32 := 4#32
  let v364 : BitVec 32 := Scalar.muli v9 c4_i32_217
  let v365 : BitVec 32 := Scalar.addi c0_i32_218 v364
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_219 : BitVec 32 := 2#32
  let v366 : BitVec 32 := Scalar.muli v5 c2_i32_219
  let v367 : BitVec 32 := Scalar.addi v365 v366
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v368 : BitVec 32 := Scalar.muli v8 c1_i32_220
  let v369 : BitVec 32 := Scalar.addi v367 v368
  v369.toNat
def k0_dev25 (d0 : Dev nD) : Nat :=
  let c0_i32_228 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_227 : BitVec 32 := 4#32
  let v380 : BitVec 32 := Scalar.muli v9 c4_i32_227
  let v381 : BitVec 32 := Scalar.addi c0_i32_228 v380
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_229 : BitVec 32 := 2#32
  let v382 : BitVec 32 := Scalar.muli v5 c2_i32_229
  let v383 : BitVec 32 := Scalar.addi v381 v382
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_230 : BitVec 32 := 1#32
  let v384 : BitVec 32 := Scalar.muli v8 c1_i32_230
  let v385 : BitVec 32 := Scalar.addi v383 v384
  v385.toNat
def k0_dev26 (d0 : Dev nD) : Nat :=
  let c0_i32_238 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_237 : BitVec 32 := 4#32
  let v396 : BitVec 32 := Scalar.muli v9 c4_i32_237
  let v397 : BitVec 32 := Scalar.addi c0_i32_238 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_239 : BitVec 32 := 2#32
  let v398 : BitVec 32 := Scalar.muli v5 c2_i32_239
  let v399 : BitVec 32 := Scalar.addi v397 v398
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_240 : BitVec 32 := 1#32
  let v400 : BitVec 32 := Scalar.muli v8 c1_i32_240
  let v401 : BitVec 32 := Scalar.addi v399 v400
  v401.toNat
def k0_off5 (d0 : Dev nD) (c0_i32_262 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c32768_i32_261 : BitVec 32 := 32768#32
  let v423 : BitVec 32 := Scalar.muli v2 c32768_i32_261
  let v424 : BitVec 32 := Scalar.addi v423 c0_i32_262
  let c0_i32_265 : BitVec 32 := 0#32
  ![v424.toNat, 0]
def k0_off6 (d0 : Dev nD) (c0_i32_280 : BitVec 32) : Fin 2 → Nat :=
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c32768_i32 : BitVec 32 := 32768#32
  let v39 : BitVec 32 := Scalar.muli v9 c32768_i32
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c8192_i32_279 : BitVec 32 := 8192#32
  let v444 : BitVec 32 := Scalar.muli v32 c8192_i32_279
  let v445 : BitVec 32 := Scalar.addi v444 c0_i32_280
  let v447 : BitVec 32 := Scalar.addi v39 v445
  let c0_i32_287 : BitVec 32 := 0#32
  ![v447.toNat, 0]
def k0_dev27 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_283 : BitVec 32 := 4#32
  let v448 : BitVec 32 := Scalar.muli v2 c4_i32_283
  let v449 : BitVec 32 := Scalar.addi c0_i32_284 v448
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_285 : BitVec 32 := 2#32
  let v450 : BitVec 32 := Scalar.muli v10 c2_i32_285
  let v451 : BitVec 32 := Scalar.addi v449 v450
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_286 : BitVec 32 := 1#32
  let v452 : BitVec 32 := Scalar.muli v8 c1_i32_286
  let v453 : BitVec 32 := Scalar.addi v451 v452
  v453.toNat
def k0_dev28 (d0 : Dev nD) : Nat :=
  let c0_i32_294 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_293 : BitVec 32 := 4#32
  let v464 : BitVec 32 := Scalar.muli v2 c4_i32_293
  let v465 : BitVec 32 := Scalar.addi c0_i32_294 v464
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_295 : BitVec 32 := 2#32
  let v466 : BitVec 32 := Scalar.muli v5 c2_i32_295
  let v467 : BitVec 32 := Scalar.addi v465 v466
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_296 : BitVec 32 := 1#32
  let v468 : BitVec 32 := Scalar.muli v11 c1_i32_296
  let v469 : BitVec 32 := Scalar.addi v467 v468
  v469.toNat
def k0_dev29 (d0 : Dev nD) : Nat :=
  let c0_i32_341 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_340 : BitVec 32 := 4#32
  let v518 : BitVec 32 := Scalar.muli v2 c4_i32_340
  let v519 : BitVec 32 := Scalar.addi c0_i32_341 v518
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_342 : BitVec 32 := 2#32
  let v520 : BitVec 32 := Scalar.muli v10 c2_i32_342
  let v521 : BitVec 32 := Scalar.addi v519 v520
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_343 : BitVec 32 := 1#32
  let v522 : BitVec 32 := Scalar.muli v8 c1_i32_343
  let v523 : BitVec 32 := Scalar.addi v521 v522
  v523.toNat
def k0_dev30 (d0 : Dev nD) : Nat :=
  let c0_i32_351 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_350 : BitVec 32 := 4#32
  let v534 : BitVec 32 := Scalar.muli v2 c4_i32_350
  let v535 : BitVec 32 := Scalar.addi c0_i32_351 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_352 : BitVec 32 := 2#32
  let v536 : BitVec 32 := Scalar.muli v5 c2_i32_352
  let v537 : BitVec 32 := Scalar.addi v535 v536
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_353 : BitVec 32 := 1#32
  let v538 : BitVec 32 := Scalar.muli v11 c1_i32_353
  let v539 : BitVec 32 := Scalar.addi v537 v538
  v539.toNat
def k0_dev31 (d0 : Dev nD) : Nat :=
  let c0_i32_398 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_397 : BitVec 32 := 4#32
  let v588 : BitVec 32 := Scalar.muli v2 c4_i32_397
  let v589 : BitVec 32 := Scalar.addi c0_i32_398 v588
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_399 : BitVec 32 := 2#32
  let v590 : BitVec 32 := Scalar.muli v10 c2_i32_399
  let v591 : BitVec 32 := Scalar.addi v589 v590
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_400 : BitVec 32 := 1#32
  let v592 : BitVec 32 := Scalar.muli v8 c1_i32_400
  let v593 : BitVec 32 := Scalar.addi v591 v592
  v593.toNat
def k0_dev32 (d0 : Dev nD) : Nat :=
  let c0_i32_408 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_407 : BitVec 32 := 4#32
  let v604 : BitVec 32 := Scalar.muli v2 c4_i32_407
  let v605 : BitVec 32 := Scalar.addi c0_i32_408 v604
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_409 : BitVec 32 := 2#32
  let v606 : BitVec 32 := Scalar.muli v5 c2_i32_409
  let v607 : BitVec 32 := Scalar.addi v605 v606
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_410 : BitVec 32 := 1#32
  let v608 : BitVec 32 := Scalar.muli v11 c1_i32_410
  let v609 : BitVec 32 := Scalar.addi v607 v608
  v609.toNat
def k0_dev33 (d0 : Dev nD) : Nat :=
  let c0_i32_455 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_454 : BitVec 32 := 4#32
  let v658 : BitVec 32 := Scalar.muli v2 c4_i32_454
  let v659 : BitVec 32 := Scalar.addi c0_i32_455 v658
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_456 : BitVec 32 := 2#32
  let v660 : BitVec 32 := Scalar.muli v10 c2_i32_456
  let v661 : BitVec 32 := Scalar.addi v659 v660
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_457 : BitVec 32 := 1#32
  let v662 : BitVec 32 := Scalar.muli v8 c1_i32_457
  let v663 : BitVec 32 := Scalar.addi v661 v662
  v663.toNat
def k0_dev34 (d0 : Dev nD) : Nat :=
  let c0_i32_465 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_464 : BitVec 32 := 4#32
  let v674 : BitVec 32 := Scalar.muli v2 c4_i32_464
  let v675 : BitVec 32 := Scalar.addi c0_i32_465 v674
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_466 : BitVec 32 := 2#32
  let v676 : BitVec 32 := Scalar.muli v5 c2_i32_466
  let v677 : BitVec 32 := Scalar.addi v675 v676
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_467 : BitVec 32 := 1#32
  let v678 : BitVec 32 := Scalar.muli v11 c1_i32_467
  let v679 : BitVec 32 := Scalar.addi v677 v678
  v679.toNat
def k0_dev35 (d0 : Dev nD) : Nat :=
  let c0_i32_511 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_510 : BitVec 32 := 4#32
  let v728 : BitVec 32 := Scalar.muli v2 c4_i32_510
  let v729 : BitVec 32 := Scalar.addi c0_i32_511 v728
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_512 : BitVec 32 := 2#32
  let v730 : BitVec 32 := Scalar.muli v10 c2_i32_512
  let v731 : BitVec 32 := Scalar.addi v729 v730
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_513 : BitVec 32 := 1#32
  let v732 : BitVec 32 := Scalar.muli v8 c1_i32_513
  let v733 : BitVec 32 := Scalar.addi v731 v732
  v733.toNat
def k0_dev36 (d0 : Dev nD) : Nat :=
  let c0_i32_521 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_520 : BitVec 32 := 4#32
  let v744 : BitVec 32 := Scalar.muli v2 c4_i32_520
  let v745 : BitVec 32 := Scalar.addi c0_i32_521 v744
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_522 : BitVec 32 := 2#32
  let v746 : BitVec 32 := Scalar.muli v5 c2_i32_522
  let v747 : BitVec 32 := Scalar.addi v745 v746
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_523 : BitVec 32 := 1#32
  let v748 : BitVec 32 := Scalar.muli v11 c1_i32_523
  let v749 : BitVec 32 := Scalar.addi v747 v748
  v749.toNat
def k0_dev37 (d0 : Dev nD) : Nat :=
  let c0_i32_567 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_566 : BitVec 32 := 4#32
  let v798 : BitVec 32 := Scalar.muli v2 c4_i32_566
  let v799 : BitVec 32 := Scalar.addi c0_i32_567 v798
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_568 : BitVec 32 := 2#32
  let v800 : BitVec 32 := Scalar.muli v10 c2_i32_568
  let v801 : BitVec 32 := Scalar.addi v799 v800
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_569 : BitVec 32 := 1#32
  let v802 : BitVec 32 := Scalar.muli v8 c1_i32_569
  let v803 : BitVec 32 := Scalar.addi v801 v802
  v803.toNat
def k0_dev38 (d0 : Dev nD) : Nat :=
  let c0_i32_577 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_576 : BitVec 32 := 4#32
  let v814 : BitVec 32 := Scalar.muli v2 c4_i32_576
  let v815 : BitVec 32 := Scalar.addi c0_i32_577 v814
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_578 : BitVec 32 := 2#32
  let v816 : BitVec 32 := Scalar.muli v5 c2_i32_578
  let v817 : BitVec 32 := Scalar.addi v815 v816
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_579 : BitVec 32 := 1#32
  let v818 : BitVec 32 := Scalar.muli v11 c1_i32_579
  let v819 : BitVec 32 := Scalar.addi v817 v818
  v819.toNat
def k0_dev39 (d0 : Dev nD) : Nat :=
  let c0_i32_623 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_622 : BitVec 32 := 4#32
  let v868 : BitVec 32 := Scalar.muli v2 c4_i32_622
  let v869 : BitVec 32 := Scalar.addi c0_i32_623 v868
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_624 : BitVec 32 := 2#32
  let v870 : BitVec 32 := Scalar.muli v10 c2_i32_624
  let v871 : BitVec 32 := Scalar.addi v869 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_625 : BitVec 32 := 1#32
  let v872 : BitVec 32 := Scalar.muli v8 c1_i32_625
  let v873 : BitVec 32 := Scalar.addi v871 v872
  v873.toNat
def k0_dev40 (d0 : Dev nD) : Nat :=
  let c0_i32_633 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_632 : BitVec 32 := 4#32
  let v884 : BitVec 32 := Scalar.muli v2 c4_i32_632
  let v885 : BitVec 32 := Scalar.addi c0_i32_633 v884
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_634 : BitVec 32 := 2#32
  let v886 : BitVec 32 := Scalar.muli v5 c2_i32_634
  let v887 : BitVec 32 := Scalar.addi v885 v886
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_635 : BitVec 32 := 1#32
  let v888 : BitVec 32 := Scalar.muli v11 c1_i32_635
  let v889 : BitVec 32 := Scalar.addi v887 v888
  v889.toNat
def k0_dev41 (d0 : Dev nD) : Nat :=
  let c0_i32_679 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_678 : BitVec 32 := 4#32
  let v938 : BitVec 32 := Scalar.muli v2 c4_i32_678
  let v939 : BitVec 32 := Scalar.addi c0_i32_679 v938
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_680 : BitVec 32 := 2#32
  let v940 : BitVec 32 := Scalar.muli v10 c2_i32_680
  let v941 : BitVec 32 := Scalar.addi v939 v940
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_681 : BitVec 32 := 1#32
  let v942 : BitVec 32 := Scalar.muli v8 c1_i32_681
  let v943 : BitVec 32 := Scalar.addi v941 v942
  v943.toNat
def k0_dev42 (d0 : Dev nD) : Nat :=
  let c0_i32_689 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_688 : BitVec 32 := 4#32
  let v954 : BitVec 32 := Scalar.muli v2 c4_i32_688
  let v955 : BitVec 32 := Scalar.addi c0_i32_689 v954
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_690 : BitVec 32 := 2#32
  let v956 : BitVec 32 := Scalar.muli v5 c2_i32_690
  let v957 : BitVec 32 := Scalar.addi v955 v956
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_691 : BitVec 32 := 1#32
  let v958 : BitVec 32 := Scalar.muli v11 c1_i32_691
  let v959 : BitVec 32 := Scalar.addi v957 v958
  v959.toNat
def k0_dev43 (d0 : Dev nD) : Nat :=
  let c0_i32_735 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_734 : BitVec 32 := 4#32
  let v1008 : BitVec 32 := Scalar.muli v2 c4_i32_734
  let v1009 : BitVec 32 := Scalar.addi c0_i32_735 v1008
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_736 : BitVec 32 := 2#32
  let v1010 : BitVec 32 := Scalar.muli v10 c2_i32_736
  let v1011 : BitVec 32 := Scalar.addi v1009 v1010
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_737 : BitVec 32 := 1#32
  let v1012 : BitVec 32 := Scalar.muli v8 c1_i32_737
  let v1013 : BitVec 32 := Scalar.addi v1011 v1012
  v1013.toNat
def k0_dev44 (d0 : Dev nD) : Nat :=
  let c0_i32_745 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_744 : BitVec 32 := 4#32
  let v1024 : BitVec 32 := Scalar.muli v2 c4_i32_744
  let v1025 : BitVec 32 := Scalar.addi c0_i32_745 v1024
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_746 : BitVec 32 := 2#32
  let v1026 : BitVec 32 := Scalar.muli v5 c2_i32_746
  let v1027 : BitVec 32 := Scalar.addi v1025 v1026
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_747 : BitVec 32 := 1#32
  let v1028 : BitVec 32 := Scalar.muli v11 c1_i32_747
  let v1029 : BitVec 32 := Scalar.addi v1027 v1028
  v1029.toNat
def k0_dev45 (d0 : Dev nD) : Nat :=
  let c0_i32_791 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_790 : BitVec 32 := 4#32
  let v1078 : BitVec 32 := Scalar.muli v2 c4_i32_790
  let v1079 : BitVec 32 := Scalar.addi c0_i32_791 v1078
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_792 : BitVec 32 := 2#32
  let v1080 : BitVec 32 := Scalar.muli v10 c2_i32_792
  let v1081 : BitVec 32 := Scalar.addi v1079 v1080
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_793 : BitVec 32 := 1#32
  let v1082 : BitVec 32 := Scalar.muli v8 c1_i32_793
  let v1083 : BitVec 32 := Scalar.addi v1081 v1082
  v1083.toNat
def k0_dev46 (d0 : Dev nD) : Nat :=
  let c0_i32_801 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_800 : BitVec 32 := 4#32
  let v1094 : BitVec 32 := Scalar.muli v2 c4_i32_800
  let v1095 : BitVec 32 := Scalar.addi c0_i32_801 v1094
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_802 : BitVec 32 := 2#32
  let v1096 : BitVec 32 := Scalar.muli v5 c2_i32_802
  let v1097 : BitVec 32 := Scalar.addi v1095 v1096
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_803 : BitVec 32 := 1#32
  let v1098 : BitVec 32 := Scalar.muli v11 c1_i32_803
  let v1099 : BitVec 32 := Scalar.addi v1097 v1098
  v1099.toNat
def k0_dev47 (d0 : Dev nD) : Nat :=
  let c0_i32_847 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_846 : BitVec 32 := 4#32
  let v1148 : BitVec 32 := Scalar.muli v2 c4_i32_846
  let v1149 : BitVec 32 := Scalar.addi c0_i32_847 v1148
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_848 : BitVec 32 := 2#32
  let v1150 : BitVec 32 := Scalar.muli v10 c2_i32_848
  let v1151 : BitVec 32 := Scalar.addi v1149 v1150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_849 : BitVec 32 := 1#32
  let v1152 : BitVec 32 := Scalar.muli v8 c1_i32_849
  let v1153 : BitVec 32 := Scalar.addi v1151 v1152
  v1153.toNat
def k0_dev48 (d0 : Dev nD) : Nat :=
  let c0_i32_857 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_856 : BitVec 32 := 4#32
  let v1164 : BitVec 32 := Scalar.muli v2 c4_i32_856
  let v1165 : BitVec 32 := Scalar.addi c0_i32_857 v1164
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_858 : BitVec 32 := 2#32
  let v1166 : BitVec 32 := Scalar.muli v5 c2_i32_858
  let v1167 : BitVec 32 := Scalar.addi v1165 v1166
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_859 : BitVec 32 := 1#32
  let v1168 : BitVec 32 := Scalar.muli v11 c1_i32_859
  let v1169 : BitVec 32 := Scalar.addi v1167 v1168
  v1169.toNat
def k0_dev49 (d0 : Dev nD) : Nat :=
  let c0_i32_903 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_902 : BitVec 32 := 4#32
  let v1218 : BitVec 32 := Scalar.muli v2 c4_i32_902
  let v1219 : BitVec 32 := Scalar.addi c0_i32_903 v1218
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_904 : BitVec 32 := 2#32
  let v1220 : BitVec 32 := Scalar.muli v10 c2_i32_904
  let v1221 : BitVec 32 := Scalar.addi v1219 v1220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_905 : BitVec 32 := 1#32
  let v1222 : BitVec 32 := Scalar.muli v8 c1_i32_905
  let v1223 : BitVec 32 := Scalar.addi v1221 v1222
  v1223.toNat
def k0_dev50 (d0 : Dev nD) : Nat :=
  let c0_i32_913 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_912 : BitVec 32 := 4#32
  let v1234 : BitVec 32 := Scalar.muli v2 c4_i32_912
  let v1235 : BitVec 32 := Scalar.addi c0_i32_913 v1234
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_914 : BitVec 32 := 2#32
  let v1236 : BitVec 32 := Scalar.muli v5 c2_i32_914
  let v1237 : BitVec 32 := Scalar.addi v1235 v1236
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_915 : BitVec 32 := 1#32
  let v1238 : BitVec 32 := Scalar.muli v11 c1_i32_915
  let v1239 : BitVec 32 := Scalar.addi v1237 v1238
  v1239.toNat
def k0_dev51 (d0 : Dev nD) : Nat :=
  let c0_i32_959 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_958 : BitVec 32 := 4#32
  let v1288 : BitVec 32 := Scalar.muli v2 c4_i32_958
  let v1289 : BitVec 32 := Scalar.addi c0_i32_959 v1288
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_960 : BitVec 32 := 2#32
  let v1290 : BitVec 32 := Scalar.muli v10 c2_i32_960
  let v1291 : BitVec 32 := Scalar.addi v1289 v1290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_961 : BitVec 32 := 1#32
  let v1292 : BitVec 32 := Scalar.muli v8 c1_i32_961
  let v1293 : BitVec 32 := Scalar.addi v1291 v1292
  v1293.toNat
def k0_dev52 (d0 : Dev nD) : Nat :=
  let c0_i32_969 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_968 : BitVec 32 := 4#32
  let v1304 : BitVec 32 := Scalar.muli v2 c4_i32_968
  let v1305 : BitVec 32 := Scalar.addi c0_i32_969 v1304
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_970 : BitVec 32 := 2#32
  let v1306 : BitVec 32 := Scalar.muli v5 c2_i32_970
  let v1307 : BitVec 32 := Scalar.addi v1305 v1306
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_971 : BitVec 32 := 1#32
  let v1308 : BitVec 32 := Scalar.muli v11 c1_i32_971
  let v1309 : BitVec 32 := Scalar.addi v1307 v1308
  v1309.toNat
def k0_dev53 (d0 : Dev nD) : Nat :=
  let c0_i32_1015 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1014 : BitVec 32 := 4#32
  let v1358 : BitVec 32 := Scalar.muli v2 c4_i32_1014
  let v1359 : BitVec 32 := Scalar.addi c0_i32_1015 v1358
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1016 : BitVec 32 := 2#32
  let v1360 : BitVec 32 := Scalar.muli v10 c2_i32_1016
  let v1361 : BitVec 32 := Scalar.addi v1359 v1360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1017 : BitVec 32 := 1#32
  let v1362 : BitVec 32 := Scalar.muli v8 c1_i32_1017
  let v1363 : BitVec 32 := Scalar.addi v1361 v1362
  v1363.toNat
def k0_dev54 (d0 : Dev nD) : Nat :=
  let c0_i32_1025 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1024 : BitVec 32 := 4#32
  let v1374 : BitVec 32 := Scalar.muli v2 c4_i32_1024
  let v1375 : BitVec 32 := Scalar.addi c0_i32_1025 v1374
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1026 : BitVec 32 := 2#32
  let v1376 : BitVec 32 := Scalar.muli v5 c2_i32_1026
  let v1377 : BitVec 32 := Scalar.addi v1375 v1376
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1027 : BitVec 32 := 1#32
  let v1378 : BitVec 32 := Scalar.muli v11 c1_i32_1027
  let v1379 : BitVec 32 := Scalar.addi v1377 v1378
  v1379.toNat
def k0_dev55 (d0 : Dev nD) : Nat :=
  let c0_i32_1071 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1070 : BitVec 32 := 4#32
  let v1428 : BitVec 32 := Scalar.muli v2 c4_i32_1070
  let v1429 : BitVec 32 := Scalar.addi c0_i32_1071 v1428
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1072 : BitVec 32 := 2#32
  let v1430 : BitVec 32 := Scalar.muli v10 c2_i32_1072
  let v1431 : BitVec 32 := Scalar.addi v1429 v1430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1073 : BitVec 32 := 1#32
  let v1432 : BitVec 32 := Scalar.muli v8 c1_i32_1073
  let v1433 : BitVec 32 := Scalar.addi v1431 v1432
  v1433.toNat
def k0_dev56 (d0 : Dev nD) : Nat :=
  let c0_i32_1081 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1080 : BitVec 32 := 4#32
  let v1444 : BitVec 32 := Scalar.muli v2 c4_i32_1080
  let v1445 : BitVec 32 := Scalar.addi c0_i32_1081 v1444
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1082 : BitVec 32 := 2#32
  let v1446 : BitVec 32 := Scalar.muli v5 c2_i32_1082
  let v1447 : BitVec 32 := Scalar.addi v1445 v1446
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1083 : BitVec 32 := 1#32
  let v1448 : BitVec 32 := Scalar.muli v11 c1_i32_1083
  let v1449 : BitVec 32 := Scalar.addi v1447 v1448
  v1449.toNat
def k0_dev57 (d0 : Dev nD) : Nat :=
  let c0_i32_1115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1114 : BitVec 32 := 4#32
  let v1486 : BitVec 32 := Scalar.muli v2 c4_i32_1114
  let v1487 : BitVec 32 := Scalar.addi c0_i32_1115 v1486
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1116 : BitVec 32 := 2#32
  let v1488 : BitVec 32 := Scalar.muli v10 c2_i32_1116
  let v1489 : BitVec 32 := Scalar.addi v1487 v1488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1117 : BitVec 32 := 1#32
  let v1490 : BitVec 32 := Scalar.muli v8 c1_i32_1117
  let v1491 : BitVec 32 := Scalar.addi v1489 v1490
  v1491.toNat
def k0_dev58 (d0 : Dev nD) : Nat :=
  let c0_i32_1125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1124 : BitVec 32 := 4#32
  let v1502 : BitVec 32 := Scalar.muli v2 c4_i32_1124
  let v1503 : BitVec 32 := Scalar.addi c0_i32_1125 v1502
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1126 : BitVec 32 := 2#32
  let v1504 : BitVec 32 := Scalar.muli v5 c2_i32_1126
  let v1505 : BitVec 32 := Scalar.addi v1503 v1504
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1127 : BitVec 32 := 1#32
  let v1506 : BitVec 32 := Scalar.muli v11 c1_i32_1127
  let v1507 : BitVec 32 := Scalar.addi v1505 v1506
  v1507.toNat
def k0_off7 (d0 : Dev nD) (c0_i32_1145 : BitVec 32) : Fin 2 → Nat :=
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c32768_i32 : BitVec 32 := 32768#32
  let v39 : BitVec 32 := Scalar.muli v9 c32768_i32
  let c2_i32_22 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_22 v5
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let v36 : BitVec 32 := Scalar.addi v35 v11
  let c8192_i32_1144 : BitVec 32 := 8192#32
  let v1528 : BitVec 32 := Scalar.muli v36 c8192_i32_1144
  let v1529 : BitVec 32 := Scalar.addi v1528 c0_i32_1145
  let v1531 : BitVec 32 := Scalar.addi v39 v1529
  let c0_i32_1152 : BitVec 32 := 0#32
  ![v1531.toNat, 0]
def k0_off8 (d0 : Dev nD) (c0_i32_1155 : BitVec 32) : Fin 2 → Nat :=
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c32768_i32 : BitVec 32 := 32768#32
  let v39 : BitVec 32 := Scalar.muli v9 c32768_i32
  let c2_i32_21 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v33 : BitVec 32 := Scalar.muli c2_i32_21 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v34 : BitVec 32 := Scalar.addi v33 v8
  let c8192_i32_1154 : BitVec 32 := 8192#32
  let v1542 : BitVec 32 := Scalar.muli v34 c8192_i32_1154
  let v1543 : BitVec 32 := Scalar.addi v1542 c0_i32_1155
  let v1545 : BitVec 32 := Scalar.addi v39 v1543
  let c0_i32_1162 : BitVec 32 := 0#32
  ![v1545.toNat, 0]
def k0_dev59 (d0 : Dev nD) : Nat :=
  let c0_i32_1299 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1298 : BitVec 32 := 4#32
  let v1742 : BitVec 32 := Scalar.muli v2 c4_i32_1298
  let v1743 : BitVec 32 := Scalar.addi c0_i32_1299 v1742
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1300 : BitVec 32 := 2#32
  let v1744 : BitVec 32 := Scalar.muli v10 c2_i32_1300
  let v1745 : BitVec 32 := Scalar.addi v1743 v1744
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1301 : BitVec 32 := 1#32
  let v1746 : BitVec 32 := Scalar.muli v8 c1_i32_1301
  let v1747 : BitVec 32 := Scalar.addi v1745 v1746
  v1747.toNat
def k0_dev60 (d0 : Dev nD) : Nat :=
  let c0_i32_1329 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1328 : BitVec 32 := 4#32
  let v1786 : BitVec 32 := Scalar.muli v2 c4_i32_1328
  let v1787 : BitVec 32 := Scalar.addi c0_i32_1329 v1786
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1330 : BitVec 32 := 2#32
  let v1788 : BitVec 32 := Scalar.muli v10 c2_i32_1330
  let v1789 : BitVec 32 := Scalar.addi v1787 v1788
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1331 : BitVec 32 := 1#32
  let v1790 : BitVec 32 := Scalar.muli v8 c1_i32_1331
  let v1791 : BitVec 32 := Scalar.addi v1789 v1790
  v1791.toNat
def k0_dev61 (d0 : Dev nD) : Nat :=
  let c0_i32_1359 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1358 : BitVec 32 := 4#32
  let v1830 : BitVec 32 := Scalar.muli v2 c4_i32_1358
  let v1831 : BitVec 32 := Scalar.addi c0_i32_1359 v1830
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1360 : BitVec 32 := 2#32
  let v1832 : BitVec 32 := Scalar.muli v10 c2_i32_1360
  let v1833 : BitVec 32 := Scalar.addi v1831 v1832
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1361 : BitVec 32 := 1#32
  let v1834 : BitVec 32 := Scalar.muli v8 c1_i32_1361
  let v1835 : BitVec 32 := Scalar.addi v1833 v1834
  v1835.toNat
def k0_dev62 (d0 : Dev nD) : Nat :=
  let c0_i32_1389 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1388 : BitVec 32 := 4#32
  let v1874 : BitVec 32 := Scalar.muli v2 c4_i32_1388
  let v1875 : BitVec 32 := Scalar.addi c0_i32_1389 v1874
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1390 : BitVec 32 := 2#32
  let v1876 : BitVec 32 := Scalar.muli v10 c2_i32_1390
  let v1877 : BitVec 32 := Scalar.addi v1875 v1876
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1391 : BitVec 32 := 1#32
  let v1878 : BitVec 32 := Scalar.muli v8 c1_i32_1391
  let v1879 : BitVec 32 := Scalar.addi v1877 v1878
  v1879.toNat
def k0_dev63 (d0 : Dev nD) : Nat :=
  let c0_i32_1419 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1418 : BitVec 32 := 4#32
  let v1918 : BitVec 32 := Scalar.muli v2 c4_i32_1418
  let v1919 : BitVec 32 := Scalar.addi c0_i32_1419 v1918
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1420 : BitVec 32 := 2#32
  let v1920 : BitVec 32 := Scalar.muli v10 c2_i32_1420
  let v1921 : BitVec 32 := Scalar.addi v1919 v1920
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1421 : BitVec 32 := 1#32
  let v1922 : BitVec 32 := Scalar.muli v8 c1_i32_1421
  let v1923 : BitVec 32 := Scalar.addi v1921 v1922
  v1923.toNat
def k0_dev64 (d0 : Dev nD) : Nat :=
  let c0_i32_1459 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1458 : BitVec 32 := 4#32
  let v1976 : BitVec 32 := Scalar.muli v2 c4_i32_1458
  let v1977 : BitVec 32 := Scalar.addi c0_i32_1459 v1976
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1460 : BitVec 32 := 2#32
  let v1978 : BitVec 32 := Scalar.muli v5 c2_i32_1460
  let v1979 : BitVec 32 := Scalar.addi v1977 v1978
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1461 : BitVec 32 := 1#32
  let v1980 : BitVec 32 := Scalar.muli v11 c1_i32_1461
  let v1981 : BitVec 32 := Scalar.addi v1979 v1980
  v1981.toNat
def k0_dev65 (d0 : Dev nD) : Nat :=
  let c0_i32_1489 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1488 : BitVec 32 := 4#32
  let v2020 : BitVec 32 := Scalar.muli v2 c4_i32_1488
  let v2021 : BitVec 32 := Scalar.addi c0_i32_1489 v2020
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1490 : BitVec 32 := 2#32
  let v2022 : BitVec 32 := Scalar.muli v5 c2_i32_1490
  let v2023 : BitVec 32 := Scalar.addi v2021 v2022
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1491 : BitVec 32 := 1#32
  let v2024 : BitVec 32 := Scalar.muli v11 c1_i32_1491
  let v2025 : BitVec 32 := Scalar.addi v2023 v2024
  v2025.toNat
def k0_dev66 (d0 : Dev nD) : Nat :=
  let c0_i32_1519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1518 : BitVec 32 := 4#32
  let v2064 : BitVec 32 := Scalar.muli v2 c4_i32_1518
  let v2065 : BitVec 32 := Scalar.addi c0_i32_1519 v2064
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1520 : BitVec 32 := 2#32
  let v2066 : BitVec 32 := Scalar.muli v5 c2_i32_1520
  let v2067 : BitVec 32 := Scalar.addi v2065 v2066
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1521 : BitVec 32 := 1#32
  let v2068 : BitVec 32 := Scalar.muli v11 c1_i32_1521
  let v2069 : BitVec 32 := Scalar.addi v2067 v2068
  v2069.toNat
def k0_dev67 (d0 : Dev nD) : Nat :=
  let c0_i32_1549 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1548 : BitVec 32 := 4#32
  let v2108 : BitVec 32 := Scalar.muli v2 c4_i32_1548
  let v2109 : BitVec 32 := Scalar.addi c0_i32_1549 v2108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1550 : BitVec 32 := 2#32
  let v2110 : BitVec 32 := Scalar.muli v5 c2_i32_1550
  let v2111 : BitVec 32 := Scalar.addi v2109 v2110
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1551 : BitVec 32 := 1#32
  let v2112 : BitVec 32 := Scalar.muli v11 c1_i32_1551
  let v2113 : BitVec 32 := Scalar.addi v2111 v2112
  v2113.toNat
def k0_off9 (d0 : Dev nD) (c3584_i32_1632 : BitVec 32) : Fin 2 → Nat :=
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c32768_i32 : BitVec 32 := 32768#32
  let v39 : BitVec 32 := Scalar.muli v9 c32768_i32
  let c2_i32_23 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v37 : BitVec 32 := Scalar.muli c2_i32_23 v10
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let v38 : BitVec 32 := Scalar.addi v37 v11
  let c8192_i32_1631 : BitVec 32 := 8192#32
  let v2218 : BitVec 32 := Scalar.muli v38 c8192_i32_1631
  let v2219 : BitVec 32 := Scalar.addi v2218 c3584_i32_1632
  let v2221 : BitVec 32 := Scalar.addi v39 v2219
  let c0_i32_1639 : BitVec 32 := 0#32
  ![v2221.toNat, 0]
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Steps.lean ====
/-
  The kernel of one device as a list of steps.

  The kernel gathers an array cut in two along the first mesh axis.  Every device holds one half
  (32768 rows) and must end with both.  Its own half it copies through two slots of on-chip memory,
  in 16 pieces of 2048 rows.  The other half arrives in 64 messages of 512 rows, each a remote copy
  from one of the three mesh neighbours; the device sends 64 messages in turn.

  Here a message is named by `Msg`, one thing the device does by `Step`, and the printed kernel is
  shown to be the run of the list `steps`.
-/
module

public import proofs.«01_k».proof.Proof.Gen.KernelIdeal
public import proofs.«01_k».proof.Proof.Gen.KernelIdeal.Points

@[expose] public section

noncomputable section

namespace Cert.KernelIdeal.Gather

open Idealize.ShloMosaic Idealize.ShloMosaic.TcCoe Idealize.SL.Sem
open Cert.KernelIdeal Facts₀ Facts

/-- The messages a device sends (and, by the same names, those it receives): to the neighbour along
    `x` its quarter (`x`) and part of the quarter diagonally opposite (`d`); along `y` and `z` what came
    from `x` (`y1`, `z1`); along `y` part of what came along `z` (`y2`), and the other way round (`z2`). -/
inductive Msg where
  | x (k : Fin 16)
  | d (k : Fin 7)
  | y1 (k : Fin 16)
  | z1 (k : Fin 16)
  | y2 (k : Fin 5)
  | z2 (k : Fin 4)
  deriving DecidableEq

def upTo16 : List (Fin 16) := [0, 1, 2, 3, 4, 5, 6, 7, 8, 9, 10, 11, 12, 13, 14, 15]
def upTo7 : List (Fin 7) := [0, 1, 2, 3, 4, 5, 6]
def upTo5 : List (Fin 5) := [0, 1, 2, 3, 4]
def upTo4 : List (Fin 4) := [0, 1, 2, 3]

/-- All messages. -/
def msgs : List Msg :=
  upTo16.map .x ++ upTo7.map .d ++ upTo16.map .y1 ++ upTo16.map .z1 ++ upTo5.map .y2 ++ upTo4.map .z2

theorem mem_msgs (i : Msg) : i ∈ msgs := by
  cases i with
  | x k => revert k; decide
  | d k => revert k; decide
  | y1 k => revert k; decide
  | z1 k => revert k; decide
  | y2 k => revert k; decide
  | z2 k => revert k; decide

instance : Fintype Msg := ⟨msgs.toFinset, fun i => List.mem_toFinset.mpr (mem_msgs i)⟩

/-- One thing a device does. -/
inductive Step where
  /-- Signal the barrier cell of the neighbour along `x`, `y`, `z`. -/
  | signal (p : Fin 3)
  /-- Wait for the three neighbours' signals. -/
  | await
  /-- Start sending a message. -/
  | send (i : Msg)
  /-- Wait until a message has arrived. -/
  | recv (i : Msg)
  /-- Wait until a message has been read out of the device. -/
  | sent (i : Msg)
  /-- Start copying piece `j` of the argument into its slot; wait for it. -/
  | load (j : Fin 16)
  | loaded (j : Fin 16)
  /-- Start copying the slot of piece `j` to its rows of the result; wait for it. -/
  | store (j : Fin 16)
  | stored (j : Fin 16)
  deriving DecidableEq

/-! ## Views -/

variable [Facts]

/-- 512 rows of the argument from a given offset. -/
def argV (off : Fin 2 → Nat) (h : ∀ a, off a + S512x1024.size a ≤ S32768x1024.size a) : Memref sig .tc .hbm S512x1024 .f32 :=
  (Memref.whole main_arg0 : Memref sig .tc .hbm S32768x1024 .f32).slice (Rect.unit (s := S32768x1024) off S512x1024.size h) (fun _ => rfl)

/-- 512 rows of the result from a given offset. -/
def outV (off : Fin 2 → Nat) (h : ∀ a, off a + S512x1024.size a ≤ S65536x1024.size a) : Memref sig .tc .hbm S512x1024 .f32 :=
  (Memref.whole main_v1 : Memref sig .tc .hbm S65536x1024 .f32).slice (Rect.unit (s := S65536x1024) off S512x1024.size h) (fun _ => rfl)

/-- Where, in the result, a message from `d` is written (on the receiving device). -/
def dstOff (d : Dev nD) : Msg → Fin 2 → Nat
  | .x k => k0_off1 d (BitVec.ofNat 32 (512 * k.val))
  | .d k => k0_off3 d (BitVec.ofNat 32 (512 * k.val))
  | .y1 k => k0_off6 d (BitVec.ofNat 32 (512 * k.val))
  | .z1 k => k0_off6 d (BitVec.ofNat 32 (512 * k.val))
  | .y2 k => k0_off7 d (BitVec.ofNat 32 (512 * (⟨7 + k, by omega⟩ : Fin 16).val))
  | .z2 k => k0_off8 d (BitVec.ofNat 32 (512 * (⟨12 + k, by omega⟩ : Fin 16).val))

theorem dstOff_inb (d : Dev nD) : ∀ (i : Msg) (a : Fin 2), dstOff d i a + S512x1024.size a ≤ S65536x1024.size a
  | .x k => k0_off1_inb d k
  | .d k => k0_off3_inb d k
  | .y1 k => k0_off6_inb d k
  | .z1 k => k0_off6_inb d k
  | .y2 k => k0_off7_inb d ⟨7 + k, by omega⟩
  | .z2 k => k0_off8_inb d ⟨12 + k, by omega⟩

/-- The rows of the result a message from `d` is written to. -/
def dstV (d : Dev nD) (i : Msg) : Memref sig .tc .hbm S512x1024 .f32 := outV (dstOff d i) (dstOff_inb d i)

/-- The rows a message from `d` is read from (on `d`): of the argument, or of the result. -/
def srcV (d : Dev nD) : Msg → Memref sig .tc .hbm S512x1024 .f32
  | .x k => argV (k0_off2 d (BitVec.ofNat 32 (512 * k.val))) (k0_off2_inb d k)
  | .d k => argV (k0_off4 d (BitVec.ofNat 32 (512 * k.val))) (k0_off4_inb d k)
  | i => dstV d i

/-- The offset a device names when it waits for a message to arrive. -/
def inOff (d : Dev nD) : Msg → Fin 2 → Nat
  | .x k => dstOff d (.x k)
  | .d k => dstOff d (.d k)
  | .y1 k => k0_off8 d (BitVec.ofNat 32 (512 * k.val))
  | .z1 k => k0_off7 d (BitVec.ofNat 32 (512 * k.val))
  | .y2 k => k0_off9 d (BitVec.ofNat 32 (3584 + 512 * (⟨k, by omega⟩ : Fin 9).val))
  | .z2 k => k0_off9 d (BitVec.ofNat 32 (3584 + 512 * (⟨5 + k, by omega⟩ : Fin 9).val))

theorem inOff_inb (d : Dev nD) : ∀ (i : Msg) (a : Fin 2), inOff d i a + S512x1024.size a ≤ S65536x1024.size a
  | .x k => k0_off1_inb d k
  | .d k => k0_off3_inb d k
  | .y1 k => k0_off8_inb d k
  | .z1 k => k0_off7_inb d k
  | .y2 k => k0_off9_inb d ⟨k, by omega⟩
  | .z2 k => k0_off9_inb d ⟨5 + k, by omega⟩

/-- The destination and the source a device names when it waits for a message to arrive. -/
def inV (d : Dev nD) (i : Msg) : Memref sig .tc .hbm S512x1024 .f32 := outV (inOff d i) (inOff_inb d i)
def insV (d : Dev nD) : Msg → Memref sig .tc .hbm S512x1024 .f32
  | .x k => srcV d (.x k)
  | .d k => srcV d (.d k)
  | i => inV d i

theorem argPiece_inb (j : Fin 16) (a : Fin 2) : (![2048 * j.val, 0] : Fin 2 → Nat) a + S2048x1024.size a ≤ S32768x1024.size a := by
  revert j a; decide

/-- Piece `j` of the argument: 2048 rows. -/
def argPiece (j : Fin 16) : Memref sig .tc .hbm S2048x1024 .f32 :=
  (Memref.whole main_arg0 : Memref sig .tc .hbm S32768x1024 .f32).slice (Rect.unit (s := S32768x1024) ![2048 * j.val, 0] S2048x1024.size (argPiece_inb j)) (fun _ => rfl)

/-- Its rows of the result on device `d`. -/
def outPiece (d : Dev nD) (j : Fin 16) : Memref sig .tc .hbm S2048x1024 .f32 :=
  (Memref.whole main_v1 : Memref sig .tc .hbm S65536x1024 .f32).slice (Rect.unit (s := S65536x1024) (k0_off5 d (BitVec.ofNat 32 (2048 * j.val))) S2048x1024.size (k0_off5_inb d j)) (fun _ => rfl)

/-- The slot a piece goes through. -/
def slotOf (j : Fin 16) : Fin 2 := ⟨j.val % 2, Nat.mod_lt _ (by decide)⟩

theorem slot_inb (b : Fin 2) (a : Fin 3) : (![b.val, 0, 0] : Fin 3 → Nat) a + S1x2048x1024.size a ≤ S2x2048x1024.size a := by
  revert b a; decide

/-- One of the two slots of on-chip memory. -/
def slotV (b : Fin 2) : Memref sig .tc .vmem S2048x1024 .f32 :=
  ((Memref.whole cc0_scratch0 : Memref sig .tc .vmem S2x2048x1024 .f32).slice (Rect.unit (s := S2x2048x1024) ![b.val, 0, 0] S1x2048x1024.size (slot_inb b)) (fun _ => rfl)).squeeze S2048x1024 squeezes_S1x2048x1024_S2048x1024

/-! ## Semaphores -/

/-- The cell counting the messages read out of the sender. -/
def sendSem : Msg → DmaSem sig
  | .x k => ⟨4 + k, by show _ < 132; omega⟩
  | .d k => ⟨20 + k, by show _ < 132; omega⟩
  | .y1 k => ⟨50 + k, by show _ < 132; omega⟩
  | .z1 k => ⟨82 + k, by show _ < 132; omega⟩
  | .y2 k => ⟨114 + k, by show _ < 132; omega⟩
  | .z2 k => ⟨124 + k, by show _ < 132; omega⟩

/-- The cell counting the messages arrived at the receiver. -/
def recvSem : Msg → DmaSem sig
  | .x k => ⟨27 + k, by show _ < 132; omega⟩
  | .d k => ⟨43 + k, by show _ < 132; omega⟩
  | .y1 k => ⟨66 + k, by show _ < 132; omega⟩
  | .z1 k => ⟨98 + k, by show _ < 132; omega⟩
  | .y2 k => ⟨119 + k, by show _ < 132; omega⟩
  | .z2 k => ⟨128 + k, by show _ < 132; omega⟩

/-- The cells of the copies into a slot and out of it. -/
def loadSem (b : Fin 2) : DmaSem sig := ⟨b, by show _ < 132; omega⟩
def storeSem (b : Fin 2) : DmaSem sig := ⟨2 + b, by show _ < 132; omega⟩

/-- The barrier cell. -/
def barSem : Sem sig := (SemArray.scalar (sig.barrier 0 rfl) : Sems sig S_).sem

/-! ## Neighbours -/

/-- The neighbours along `x`, `y`, `z`. -/
def nbr : Fin 3 → Dev nD → Dev nD
  | 0, d => ⟨k0_dev1 d, k0_dev1_lt d⟩
  | 1, d => ⟨k0_dev2 d, k0_dev2_lt d⟩
  | 2, d => ⟨k0_dev3 d, k0_dev3_lt d⟩

/-- The axis a message goes along. -/
def Msg.axis : Msg → Fin 3
  | .x _ => 0 | .d _ => 0 | .y1 _ => 1 | .z1 _ => 2 | .y2 _ => 1 | .z2 _ => 2

/-- The device a message goes to — and the one the message of the same name comes from. -/
def peer (i : Msg) (d : Dev nD) : Dev nD := nbr i.axis d

/-! ## The program -/

variable {F : FTy → Type} [FloatOps F]

/-- What a step is in the kernel of device `d`. -/
def Step.prog (d : Dev nD) : Step → Prog (TpuEff nD τ sig (Elt F) Λ₀ .tc) PUnit
  | .signal p => semSignalWord (nbr p d) barSem 1#32
  | .await => semWaitWord barSem 3#32
  | .send i => Prog.lift (.enqueueDma (srcV d i) (.remote (Dev.tc (peer i d)) (dstV d i) (.dma (sendSem i))) (.dma (recvSem i)) (View.wordExact_bits rfl) (View.wordExact_bits rfl) ⟨⟨rfl, Or.inl rfl⟩, trivial⟩)
  | .recv i => Prog.lift (.waitDma2 (recvSem i) (insV d i) (inV d i) (View.wordExact_bits rfl) (View.wordExact_bits rfl))
  | .sent i => Prog.lift (.waitDma2 (sendSem i) (dstV d i) (srcV d i) (View.wordExact_bits rfl) (View.wordExact_bits rfl))
  | .load j => Prog.lift (.enqueueDma (argPiece j) (.here (slotV (slotOf j))) (.dma (loadSem (slotOf j))) (View.wordExact_bits rfl) ((View.wordExact_bits rfl).reshape _ _) ⟨Or.inl rfl, trivial⟩)
  | .loaded j => Prog.lift (.waitDma2 (loadSem (slotOf j)) (argPiece j) (slotV (slotOf j)) (View.wordExact_bits rfl) ((View.wordExact_bits rfl).reshape _ _))
  | .store j => Prog.lift (.enqueueDma (slotV (slotOf j)) (.here (outPiece d j)) (.dma (storeSem (slotOf j))) ((View.wordExact_bits rfl).reshape _ _) (View.wordExact_bits rfl) ⟨Or.inl rfl, trivial⟩)
  | .stored j => Prog.lift (.waitDma2 (storeSem (slotOf j)) (slotV (slotOf j)) (outPiece d j) ((View.wordExact_bits rfl).reshape _ _) (View.wordExact_bits rfl))

/-- A list of steps, run in order. -/
def run (d : Dev nD) : List Step → Prog (TpuEff nD τ sig (Elt F) Λ₀ .tc) PUnit
  | [] => pure ⟨⟩
  | s :: l => s.prog d >>= fun _ => run d l

/-! ## The list -/

/-- The copy through on-chip memory at piece `c`: the slot of the next piece is freed and its load started, then
    this piece's load is awaited and its store started. -/
def copySteps (c : Fin 16) : List Step :=
  (if h : 1 ≤ c.val ∧ c.val < 15 then [.stored ⟨c.val - 1, by omega⟩] else [])
    ++ (if h : c.val < 15 then [.load ⟨c.val + 1, by omega⟩] else []) ++ [.loaded c, .store c]

/-- The second phase at chunk `c`: what has come along `z` and `y` is awaited and part of it sent on. -/
def relaySteps (c : Fin 16) : List Step :=
  [.recv (.z1 c)] ++ (if h : 7 ≤ c.val ∧ c.val < 12 then [.send (.y2 ⟨c.val - 7, by omega⟩)] else [])
    ++ [.recv (.y1 c)] ++ (if h : 12 ≤ c.val then [.send (.z2 ⟨c.val - 12, by omega⟩)] else [])

/-- The kernel's steps. -/
def steps : List Step :=
  [.signal 0, .signal 1, .signal 2, .await]
    ++ upTo16.map (fun k => .send (.x k)) ++ upTo7.map (fun k => .send (.d k))
    ++ [.load 0]
    ++ upTo16.flatMap (fun c => copySteps c ++ [.recv (.x c), .send (.y1 c), .send (.z1 c)])
    ++ [.stored 14, .stored 15]
    ++ upTo16.flatMap relaySteps
    ++ upTo7.map (fun k => .recv (.d k)) ++ upTo5.map (fun k => .recv (.y2 k)) ++ upTo4.map (fun k => .recv (.z2 k))
    ++ upTo16.flatMap (fun c => [.sent (.x c), .sent (.y1 c), .sent (.z1 c)])
    ++ upTo7.map (fun k => .sent (.d k)) ++ upTo5.map (fun k => .sent (.y2 k)) ++ upTo4.map (fun k => .sent (.z2 k))

end Cert.KernelIdeal.Gather
-- ==== Proof.Body.lean ====
/-
  The printed kernel is the run of the list of steps.
-/
module

public import proofs.«01_k».proof.Proof.Steps

@[expose] public section

set_option maxRecDepth 65536

noncomputable section

namespace Cert.KernelIdeal.Gather

open Idealize.ShloMosaic Idealize.ShloMosaic.TcCoe Idealize.SL.Sem
open Cert.KernelIdeal Facts₀ Facts

variable {F : FTy → Type} [FloatOps F]

theorem body_eq (t : Fin cfg0.N) : Gen.bodyAt0 (F := F) t = Prog.op .deviceId (fun d => run d steps) := by rfl

end Cert.KernelIdeal.Gather
-- ==== Proof.Geometry.lean ====
/-
  Where the messages go and what they carry.

  The result has 128 chunks of 512 rows, 64 to each half; the argument has 64.  A message is one chunk.
  `dstBlk d i` is the chunk of the result message `i` of device `d` is written to, and `owner c b` says how
  chunk `b` of device `c`'s result comes to be written: by a message or by a piece of the local copy.

  `goal A c` is what device `c`'s result holds in the end, `A d` being the argument of device `d`: chunk `b`
  is a chunk of the argument of `srcDev c b`.
-/
module

public import proofs.«01_k».proof.Proof.Steps
public import Idealize.ShloMosaic.Lib.Pipeline.ValueKit

@[expose] public section

noncomputable section

namespace Cert.KernelIdeal.Gather

open Idealize.ShloMosaic Idealize.ShloMosaic.TcCoe Idealize.SL.Sem
open Cert.KernelIdeal Facts₀ Facts

/-! ## Chunk numbers -/

/-- The chunk of the result a message of device `d` is written to. -/
def dstBlk (d : Dev nD) : Msg → ℕ
  | .x k => 64 * (d.val / 4) + 16 * (d.val % 4) + k
  | .d k => 64 * (d.val / 4) + 16 * (3 - d.val % 4) + k
  | .y1 k => 64 * (1 - d.val / 4) + 16 * (d.val % 4) + k
  | .z1 k => 64 * (1 - d.val / 4) + 16 * (d.val % 4) + k
  | .y2 k => 64 * (1 - d.val / 4) + 16 * (2 * ((d.val / 2) % 2) + (1 - d.val % 2)) + 7 + k
  | .z2 k => 64 * (1 - d.val / 4) + 16 * (2 * (1 - (d.val / 2) % 2) + d.val % 2) + 12 + k

/-- The chunk of the argument a message of the first kind is read from. -/
def argBlk (d : Dev nD) : Msg → ℕ
  | .d k => 16 * (3 - d.val % 4) + k
  | .x k => 16 * (d.val % 4) + k
  | _ => 0

/-- The message or piece that writes chunk `b` of device `c`'s result. -/
def owner (c : Dev nD) (b : ℕ) : Msg ⊕ Fin 16 :=
  if b / 64 = c.val / 4 then .inr ⟨(b / 4) % 16, Nat.mod_lt _ (by decide)⟩
  else if (b / 16) % 4 = c.val % 4 then .inl (.x ⟨b % 16, Nat.mod_lt _ (by decide)⟩)
  else if (b / 16) % 4 = 3 - c.val % 4 then
    (if b % 16 < 7 then .inl (.d ⟨(b % 16) % 7, Nat.mod_lt _ (by decide)⟩)
      else if b % 16 < 12 then .inl (.y2 ⟨(b % 16 - 7) % 5, Nat.mod_lt _ (by decide)⟩)
      else .inl (.z2 ⟨(b % 16 - 12) % 4, Nat.mod_lt _ (by decide)⟩))
  else if (b / 16) % 4 = (c.val + 2) % 4 then .inl (.y1 ⟨b % 16, Nat.mod_lt _ (by decide)⟩)
  else .inl (.z1 ⟨b % 16, Nat.mod_lt _ (by decide)⟩)

/-- The device whose argument chunk `b` of device `c`'s result is part of. -/
def srcDev (c : Dev nD) (b : ℕ) : Dev nD :=
  if b / 64 = c.val / 4 then c
  else if (b / 16) % 4 = 3 - c.val % 4 ∧ b % 16 < 7 then ⟨(c.val + 4) % 8, Nat.mod_lt _ (by decide)⟩
  else ⟨(4 * (1 - c.val / 4) + (b / 16) % 4) % 8, Nat.mod_lt _ (by decide)⟩

theorem nbr_nbr : ∀ (p : Fin 3) (d : Dev nD), nbr p (nbr p d) = d := by decide +kernel
theorem peer_peer (i : Msg) (d : Dev nD) : peer i (peer i d) = d := nbr_nbr _ _

theorem owner_dst : ∀ (c : Dev nD) (i : Msg), owner c (dstBlk (peer i c) i) = .inl i := by decide +kernel

theorem owner_inl : ∀ (c : Dev nD) (b : Fin 128) (i : Msg), owner c b = .inl i → dstBlk (peer i c) i = b := by
  have h : ∀ (c : Dev nD) (b : Fin 128),
      (match owner c b with | .inl i => decide (dstBlk (peer i c) i = b.val) | .inr _ => true) = true := by decide +kernel
  intro c b i hi
  have := h c b; rw [hi] at this; exact of_decide_eq_true this

/-- A message of a device to its neighbour along `x` carries part of that device's own argument. -/
theorem srcDev_arg : ∀ (c : Dev nD) (i : Msg), i.axis = 0 → srcDev (peer i c) (dstBlk c i) = c := by decide +kernel
theorem argBlk_dst : ∀ (c : Dev nD) (i : Msg), i.axis = 0 → dstBlk c i % 64 = argBlk c i := by decide +kernel
/-- Any other message carries what sender and receiver agree on. -/
theorem srcDev_relay : ∀ (c : Dev nD) (i : Msg), i.axis ≠ 0 → srcDev (peer i c) (dstBlk c i) = srcDev c (dstBlk c i) := by decide +kernel
/-- The source of the chunk is across the `x` axis, or the device itself. -/
theorem srcDev_half : ∀ (c : Dev nD) (b : Fin 128), (srcDev c b).val / 4 = b.val / 64 := by decide +kernel

/-! ## Offsets -/

theorem dev_lt (d : Dev nD) : d.val < 8 := d.isLt

theorem dstOff_eq (d : Dev nD) (i : Msg) : dstOff d i = ![512 * dstBlk d i, 0] := by
  have hd := dev_lt d
  cases i with
  | x k => exact (Gen.k0_off1_eq d k).trans (by congr 1; simp only [dstBlk]; omega)
  | d k => exact (Gen.k0_off3_eq d k).trans (by congr 1; simp only [dstBlk]; omega)
  | y1 k => exact (Gen.k0_off6_eq d k).trans (by congr 1; simp only [dstBlk]; omega)
  | z1 k => exact (Gen.k0_off6_eq d k).trans (by congr 1; simp only [dstBlk]; omega)
  | y2 k => exact (Gen.k0_off7_eq d ⟨7 + k, by omega⟩).trans (by congr 1; simp only [dstBlk]; omega)
  | z2 k => exact (Gen.k0_off8_eq d ⟨12 + k, by omega⟩).trans (by congr 1; simp only [dstBlk]; omega)

theorem off2_eq (d : Dev nD) (k : Fin 16) : k0_off2 d (BitVec.ofNat 32 (512 * k.val)) = ![512 * argBlk d (.x k), 0] := by
  have hd := dev_lt d
  exact (Gen.k0_off2_eq d k).trans (by congr 1; simp only [argBlk]; omega)
theorem off4_eq (d : Dev nD) (k : Fin 7) : k0_off4 d (BitVec.ofNat 32 (512 * k.val)) = ![512 * argBlk d (.d k), 0] := by
  have hd := dev_lt d
  exact (Gen.k0_off4_eq d k).trans (by congr 1; simp only [argBlk]; omega)
theorem off5_eq (d : Dev nD) (j : Fin 16) : k0_off5 d (BitVec.ofNat 32 (2048 * j.val)) = ![2048 * (16 * (d.val / 4) + j.val), 0] :=
  (Gen.k0_off5_eq d j).trans (by congr 1; omega)

/-! ## Regions -/

/-- Chunk `b` of the result; chunk `b` of the argument. -/
def outChunk (b : ℕ) : Finset S65536x1024.Idx := Finset.univ.filter fun i => (i 0).val / 512 = b
def argChunk (b : ℕ) : Finset S32768x1024.Idx := Finset.univ.filter fun i => (i 0).val / 512 = b
/-- A piece of 2048 rows of either. -/
def outRows (j : ℕ) : Finset S65536x1024.Idx := Finset.univ.filter fun i => (i 0).val / 2048 = j
def argRows (j : ℕ) : Finset S32768x1024.Idx := Finset.univ.filter fun i => (i 0).val / 2048 = j
/-- A slot of the on-chip memory. -/
def slotSet (b : ℕ) : Finset S2x2048x1024.Idx := Finset.univ.filter fun i => (i 0).val = b

theorem mem_outChunk {b : ℕ} {i : S65536x1024.Idx} : i ∈ outChunk b ↔ (i 0).val / 512 = b := by simp [outChunk]
theorem mem_argChunk {b : ℕ} {i : S32768x1024.Idx} : i ∈ argChunk b ↔ (i 0).val / 512 = b := by simp [argChunk]
theorem mem_outRows {j : ℕ} {i : S65536x1024.Idx} : i ∈ outRows j ↔ (i 0).val / 2048 = j := by simp [outRows]
theorem mem_argRows {j : ℕ} {i : S32768x1024.Idx} : i ∈ argRows j ↔ (i 0).val / 2048 = j := by simp [argRows]
theorem mem_slotSet {b : ℕ} {i : S2x2048x1024.Idx} : i ∈ slotSet b ↔ (i 0).val = b := by simp [slotSet]

/-- Whole rows from row `n * b` on, `n` of them: the rows whose number divided by `n` is `b`. -/
theorem mem_rows {R n b : ℕ} (hn : 0 < n) {off : Fin 2 → ℕ} (hoff : off = ![n * b, 0])
    (h : ∀ e, off e + (⟨2, ![n, 1024]⟩ : Shape).size e ≤ (⟨2, ![R, 1024]⟩ : Shape).size e) (i : (⟨2, ![R, 1024]⟩ : Shape).Idx) :
    i ∈ (Rect.unit (s := ⟨2, ![R, 1024]⟩) off (⟨2, ![n, 1024]⟩ : Shape).size h).set ↔ (i 0).val / n = b := by
  subst hoff
  rw [Rect.mem_set_unit, Nat.div_eq_iff hn]
  constructor
  · intro hi
    have h0 : n * b ≤ (i 0).val ∧ (i 0).val < n * b + n := hi 0
    rw [Nat.mul_comm] at h0; omega
  · intro hi e
    fin_cases e
    · show n * b ≤ (i 0).val ∧ (i 0).val < n * b + n
      rw [Nat.mul_comm]; omega
    · show 0 ≤ (i 1).val ∧ (i 1).val < 0 + 1024
      have : (i 1).val < 1024 := (i 1).isLt
      omega

theorem outV_set (off : Fin 2 → ℕ) (h) (b : ℕ) (hoff : off = ![512 * b, 0]) : (outV off h).view.set = outChunk b :=
  Finset.ext fun i => (ValueKit.mem_set_slice_whole_iff main_v1 _ i (mem_rows (R := 65536) (by decide) hoff h i)).trans mem_outChunk.symm

theorem argV_set (off : Fin 2 → ℕ) (h) (b : ℕ) (hoff : off = ![512 * b, 0]) : (argV off h).view.set = argChunk b :=
  Finset.ext fun i => (ValueKit.mem_set_slice_whole_iff main_arg0 _ i (mem_rows (R := 32768) (by decide) hoff h i)).trans mem_argChunk.symm

theorem argPiece_set (j : Fin 16) : (argPiece j).view.set = argRows j :=
  Finset.ext fun i => (ValueKit.mem_set_slice_whole_iff main_arg0 _ i (mem_rows (R := 32768) (by decide) rfl (argPiece_inb j) i)).trans mem_argRows.symm

theorem outPiece_set (d : Dev nD) (j : Fin 16) : (outPiece d j).view.set = outRows (16 * (d.val / 4) + j) :=
  Finset.ext fun i => (ValueKit.mem_set_slice_whole_iff main_v1 _ i (mem_rows (R := 65536) (by decide) (off5_eq d j) (k0_off5_inb d j) i)).trans mem_outRows.symm

theorem mem_slab (b : Fin 2) (i : S2x2048x1024.Idx) :
    i ∈ (Rect.unit (s := S2x2048x1024) ![b.val, 0, 0] S1x2048x1024.size (slot_inb b)).set ↔ (i 0).val = b := by
  rw [Rect.mem_set_unit]
  constructor
  · intro h
    have h0 : b.val ≤ (i 0).val ∧ (i 0).val < b.val + 1 := h 0
    omega
  · intro h a
    fin_cases a
    · show b.val ≤ (i 0).val ∧ (i 0).val < b.val + 1
      omega
    · exact ⟨Nat.zero_le _, (i 1).isLt.trans_eq (Nat.zero_add _).symm⟩
    · exact ⟨Nat.zero_le _, (i 2).isLt.trans_eq (Nat.zero_add _).symm⟩

theorem slotV_set (b : Fin 2) : (slotV b).view.set = slotSet b :=
  (show (slotV b).view.set = ((View.whole cc0_scratch0).slice (Rect.unit (s := S2x2048x1024) ![b.val, 0, 0] S1x2048x1024.size (slot_inb b))).set
    from Memref.set_view_squeeze _ squeezes_S1x2048x1024_S2048x1024).trans
  (Finset.ext fun i => (ValueKit.mem_set_slice_whole_iff cc0_scratch0 _ i (mem_slab b i)).trans mem_slotSet.symm)

/-! ## Contents -/

variable {F : FTy → Type} [FloatOps F]

/-- A row of the result's place in the argument it comes from. -/
def argIx (i : S65536x1024.Idx) : S32768x1024.Idx := fun a =>
  ⟨(![(i 0).val % 32768, (i 1).val] : Fin 2 → ℕ) a, by
    fin_cases a
    · exact Nat.mod_lt _ (by decide)
    · exact (i 1).isLt⟩

/-- What device `c`'s result holds in the end. -/
def goal (A : Dev nD → S32768x1024.Idx → Elt F .f32) (c : Dev nD) (i : S65536x1024.Idx) : Elt F .f32 :=
  A (srcDev c ((i 0).val / 512)) (argIx i)

/-- A copy leaves contents `g` where it writes, once its source reads what `g` reads there. -/
theorem write_read_of {sp : Space} {s : Shape} {e : EltTy} (v : View sig .tc sp s e)
    (fd g : v.ty.Contents (Elt F)) (w : s.Idx → Elt F e) (h : ∀ x, v.read (Elt F) g x = w x) (i : v.ty.Idx) (hi : i ∈ v.set) :
    v.write (Elt F) fd w Finset.univ i = g i := by
  obtain ⟨x, -, rfl⟩ := Finset.mem_map.mp hi
  rw [View.write_emb_of_mem _ _ (Finset.mem_univ x), ← h x, View.read_apply, cast_cast, cast_eq]

theorem outV_emb (off : Fin 2 → ℕ) (h) (x : S512x1024.Idx) (a : Fin 2) : ((outV off h).view.emb x a : ℕ) = off a + x a :=
  ValueKit.view_emb_slice_whole_unit_val main_v1 off S512x1024.size h x a
theorem argV_emb (off : Fin 2 → ℕ) (h) (x : S512x1024.Idx) (a : Fin 2) : ((argV off h).view.emb x a : ℕ) = off a + x a :=
  ValueKit.view_emb_slice_whole_unit_val main_arg0 off S512x1024.size h x a
theorem argPiece_emb (j : Fin 16) (x : S2048x1024.Idx) (a : Fin 2) : ((argPiece j).view.emb x a : ℕ) = (![2048 * j.val, 0] : Fin 2 → ℕ) a + x a :=
  ValueKit.view_emb_slice_whole_unit_val main_arg0 _ S2048x1024.size (argPiece_inb j) x a
theorem outPiece_emb (d : Dev nD) (j : Fin 16) (x : S2048x1024.Idx) (a : Fin 2) :
    ((outPiece d j).view.emb x a : ℕ) = k0_off5 d (BitVec.ofNat 32 (2048 * j.val)) a + x a :=
  ValueKit.view_emb_slice_whole_unit_val main_v1 _ S2048x1024.size (k0_off5_inb d j) x a

/-- The element of the result that element `x` of a message, of a piece, is written to. -/
def outIx (c : Dev nD) (i : Msg) (x : S512x1024.Idx) : S65536x1024.Idx := (dstV c i).view.emb x
def pieceIx (c : Dev nD) (j : Fin 16) (x : S2048x1024.Idx) : S65536x1024.Idx := (outPiece c j).view.emb x

theorem outIx_row (c : Dev nD) (i : Msg) (x : S512x1024.Idx) : (outIx c i x 0).val = 512 * dstBlk c i + (x 0).val := by
  refine (outV_emb _ _ x 0).trans ?_; rw [dstOff_eq]; rfl
theorem outIx_col (c : Dev nD) (i : Msg) (x : S512x1024.Idx) : (outIx c i x 1).val = (x 1).val := by
  refine (outV_emb _ _ x 1).trans ?_; rw [dstOff_eq]; exact Nat.zero_add _
theorem outIx_blk (c : Dev nD) (i : Msg) (x : S512x1024.Idx) : (outIx c i x 0).val / 512 = dstBlk c i := by
  have hx : (x 0).val < 512 := (x 0).isLt
  rw [outIx_row]; omega
theorem pieceIx_row (c : Dev nD) (j : Fin 16) (x : S2048x1024.Idx) : (pieceIx c j x 0).val = 2048 * (16 * (c.val / 4) + j.val) + (x 0).val := by
  refine (outPiece_emb c j x 0).trans ?_; rw [off5_eq]; rfl
theorem pieceIx_col (c : Dev nD) (j : Fin 16) (x : S2048x1024.Idx) : (pieceIx c j x 1).val = (x 1).val := by
  refine (outPiece_emb c j x 1).trans ?_; rw [off5_eq]; exact Nat.zero_add _

variable (A : Dev nD → S32768x1024.Idx → Elt F .f32)

/-- A message along `x`: what the receiver is to hold there is what the sender's argument holds. -/
theorem goal_arg (c : Dev nD) (i : Msg) (hi : i.axis = 0) (off : Fin 2 → ℕ) (h) (hoff : off = ![512 * argBlk c i, 0]) (x : S512x1024.Idx) :
    (dstV c i).view.read (Elt F) (goal A (peer i c)) x = (argV off h).view.read (Elt F) (A c) x := by
  have e : goal A (peer i c) (outIx c i x) = A c ((argV off h).view.emb x) := by
    have hx : (x 0).val < 512 := (x 0).isLt
    have hb := argBlk_dst c i hi
    unfold goal
    refine congr (congrArg A ((congrArg (srcDev (peer i c)) (outIx_blk c i x)).trans (srcDev_arg c i hi))) (funext fun a => Fin.ext ?_)
    refine Eq.trans ?_ (argV_emb off h x a).symm
    subst hoff
    fin_cases a
    · show (outIx c i x 0).val % 32768 = 512 * argBlk c i + (x 0).val
      rw [outIx_row]; omega
    · show (outIx c i x 1).val = 0 + (x 1).val
      rw [outIx_col]; omega
  exact e

/-- Any other message: the receiver is to hold there what the sender holds there. -/
theorem goal_relay (c : Dev nD) (i : Msg) (hi : i.axis ≠ 0) (x : S512x1024.Idx) :
    (dstV c i).view.read (Elt F) (goal A (peer i c)) x = (dstV c i).view.read (Elt F) (goal A c) x := by
  have e : goal A (peer i c) (outIx c i x) = goal A c (outIx c i x) := by
    unfold goal
    rw [outIx_blk, srcDev_relay c i hi]
  exact e

/-- A piece of the local copy: the device is to hold, in its own half, its own argument. -/
theorem goal_piece (c : Dev nD) (j : Fin 16) (x : S2048x1024.Idx) :
    (outPiece c j).view.read (Elt F) (goal A c) x = (argPiece j).view.read (Elt F) (A c) x := by
  have e : goal A c (pieceIx c j x) = A c ((argPiece j).view.emb x) := by
    have hc := dev_lt c
    have hj := j.isLt
    have hx : (x 0).val < 2048 := (x 0).isLt
    unfold goal
    refine congr (congrArg A ?_) (funext fun a => Fin.ext ?_)
    · unfold srcDev
      rw [if_pos]
      rw [pieceIx_row]; omega
    · refine Eq.trans ?_ (argPiece_emb j x a).symm
      fin_cases a
      · show (pieceIx c j x 0).val % 32768 = 2048 * j.val + (x 0).val
        rw [pieceIx_row]; omega
      · show (pieceIx c j x 1).val = 0 + (x 1).val
        rw [pieceIx_col]; omega
  exact e

end Cert.KernelIdeal.Gather
-- ==== Proof.Protocol.lean ====
/-
  The protocol: the semaphore cells, what each step needs and gives, and what each payment hands over.

  Every cell of a device is the barrier cell, a message's cell on the sending or on the receiving side, or one of
  the two cells of a slot.  A message's cells have one round, with one payment; the barrier cell one round with
  one payment by each neighbour; a slot's cells eight rounds, one for each piece that goes through the slot.

  `Res` names what a device can hold and `den` says what that is.  A device's run is then a computation on a list
  of names (`Exec.lean`).
-/
module

public import proofs.«01_k».proof.Proof.Body
public import proofs.«01_k».proof.Proof.Geometry
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

/-! ## Cells -/

/-- A device's semaphore cells. -/
inductive Cell where
  | bar
  | snd (i : Msg)
  | rcv (i : Msg)
  | ld (b : Fin 2)
  | st (b : Fin 2)
  deriving DecidableEq

/-- All of them. -/
def cells : List Cell := .bar :: (msgs.map .snd ++ msgs.map .rcv ++ [.ld 0, .ld 1, .st 0, .st 1])

theorem mem_cells : ∀ k : Cell, k ∈ cells := by
  have hb : ∀ b : Fin 2, b = 0 ∨ b = 1 := by decide
  intro k
  cases k with
  | bar => simp [cells]
  | snd i => simp [cells, mem_msgs i]
  | rcv i => simp [cells, mem_msgs i]
  | ld b => rcases hb b with rfl | rfl <;> simp [cells]
  | st b => rcases hb b with rfl | rfl <;> simp [cells]

instance : Fintype Cell := ⟨cells.toFinset, fun k => List.mem_toFinset.mpr (mem_cells k)⟩

/-- The semaphore of a cell. -/
def loc : Cell → SemLoc sig
  | .bar => .reg barSem
  | .snd i => .dma (sendSem i)
  | .rcv i => .dma (recvSem i)
  | .ld b => .dma (loadSem b)
  | .st b => .dma (storeSem b)

/-- The cell of a transfer semaphore, by its number. -/
def cellNo (n : ℕ) : Cell :=
  if n < 2 then .ld ⟨n % 2, Nat.mod_lt _ (by decide)⟩
  else if n < 4 then .st ⟨(n - 2) % 2, Nat.mod_lt _ (by decide)⟩
  else if n < 20 then .snd (.x ⟨(n - 4) % 16, Nat.mod_lt _ (by decide)⟩)
  else if n < 27 then .snd (.d ⟨(n - 20) % 7, Nat.mod_lt _ (by decide)⟩)
  else if n < 43 then .rcv (.x ⟨(n - 27) % 16, Nat.mod_lt _ (by decide)⟩)
  else if n < 50 then .rcv (.d ⟨(n - 43) % 7, Nat.mod_lt _ (by decide)⟩)
  else if n < 66 then .snd (.y1 ⟨(n - 50) % 16, Nat.mod_lt _ (by decide)⟩)
  else if n < 82 then .rcv (.y1 ⟨(n - 66) % 16, Nat.mod_lt _ (by decide)⟩)
  else if n < 98 then .snd (.z1 ⟨(n - 82) % 16, Nat.mod_lt _ (by decide)⟩)
  else if n < 114 then .rcv (.z1 ⟨(n - 98) % 16, Nat.mod_lt _ (by decide)⟩)
  else if n < 119 then .snd (.y2 ⟨(n - 114) % 5, Nat.mod_lt _ (by decide)⟩)
  else if n < 124 then .rcv (.y2 ⟨(n - 119) % 5, Nat.mod_lt _ (by decide)⟩)
  else if n < 128 then .snd (.z2 ⟨(n - 124) % 4, Nat.mod_lt _ (by decide)⟩)
  else .rcv (.z2 ⟨(n - 128) % 4, Nat.mod_lt _ (by decide)⟩)

/-- The cell of a semaphore. -/
def decode : SemLoc sig → Cell
  | .reg _ => .bar
  | .dma n => cellNo n.val

theorem decode_loc : ∀ k : Cell, decode (loc k) = k := by
  have h : ∀ k : Cell, k ≠ .bar → decode (loc k) = k := by decide +kernel
  intro k
  by_cases hk : k = .bar
  · subst hk; rfl
  · exact h k hk

theorem loc_injective : Function.Injective loc := Function.LeftInverse.injective decode_loc

/-- A cell of a device. -/
def kcell (c : Dev nD) (k : Cell) : GSem nD τ sig := ((c : Thread nD τ), loc k)

theorem kcell_inj {c c' : Dev nD} {k k' : Cell} (h : kcell c k = kcell c' k') : c = c' ∧ k = k' :=
  ⟨congrArg (fun g : GSem nD τ sig => g.1.1) h, loc_injective (congrArg Prod.snd h)⟩

/-! ## What a device holds -/

/-- The names of what a device holds. -/
inductive Res where
  /-- Its position at a cell: the round. -/
  | at (k : Cell) (r : ℕ)
  /-- The right to wait at a cell for a round's payments. -/
  | cred (k : Cell)
  /-- The right to make a message's payments. -/
  | tok (i : Msg)
  /-- The receiver's rows a message is written to. -/
  | dst (i : Msg)
  /-- The share of the rows a message is read from. -/
  | src (i : Msg)
  /-- The rows an arrived message was written to. -/
  | keep (i : Msg)
  /-- The rows a message is to arrive in, before it has. -/
  | raw (i : Msg)
  /-- The right to signal a neighbour's barrier cell. -/
  | barT (p : Fin 3)
  /-- A share of a piece of the argument; the piece's rows of the result before and after the copy. -/
  | argP (j : Fin 16)
  | outP (j : Fin 16)
  | outD (j : Fin 16)
  /-- A slot; a slot holding a piece. -/
  | slotFree (b : Fin 2)
  | slotFull (j : Fin 16)
  /-- The right to make the payment of a piece's load, of its store. -/
  | ldT (j : Fin 16)
  | stT (j : Fin 16)
  deriving DecidableEq

variable {F : FTy → Type} [FloatOps F]

/-- The protocol's own ghost state beside the pipeline's: payments named by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable [Facts]

/-- The credit of a message, and of a piece of the local copy. -/
def msgAmt : ℕ := (dstV 0 (.x 0)).view.dmaCredit
def pieceAmt : ℕ := (argPiece 0).view.dmaCredit

theorem msgAmt_pos : 0 < msgAmt := View.dmaCredit_pos _ (by decide)
theorem pieceAmt_pos : 0 < pieceAmt := View.dmaCredit_pos _ (by decide)

/-- One payment's amount at a cell, and a whole round's. -/
def amt : Cell → ℕ
  | .bar => 1
  | .snd _ | .rcv _ => msgAmt
  | .ld _ | .st _ => pieceAmt
def roundAmt : Cell → ℕ
  | .bar => 3
  | k => amt k

/-- The round a piece is of its slot's, and the piece of a slot's round. -/
def roundOf (j : Fin 16) : ℕ := j.val / 2
def pieceAt (b : Fin 2) (r : ℕ) : Fin 16 := ⟨(2 * r + b.val) % 16, Nat.mod_lt _ (by decide)⟩
theorem pieceAt_slot (j : Fin 16) : pieceAt (slotOf j) (roundOf j) = j := by revert j; decide
theorem roundOf_lt (j : Fin 16) : roundOf j < 8 := by revert j; decide

variable (A : Dev nD → S32768x1024.Idx → Elt F .f32)

/-- Elements of a device's result, of its argument, of its on-chip memory, at given contents. -/
def outPts (c : Dev nD) (S : Finset S65536x1024.Idx) (q : PosShare TreeShare) (f : S65536x1024.Idx → Elt F .f32) : sProp 𝕄 :=
  (c : Thread nD τ).loc main_v1 ↦[S]{q} f
def argPts (c : Dev nD) (S : Finset S32768x1024.Idx) (q : PosShare TreeShare) (f : S32768x1024.Idx → Elt F .f32) : sProp 𝕄 :=
  (c : Thread nD τ).loc main_arg0 ↦[S]{q} f
def slotPts (c : Dev nD) (b : Fin 2) (f : S2x2048x1024.Idx → Elt F .f32) : sProp 𝕄 :=
  (c : Thread nD τ).loc cc0_scratch0 ↦[slotSet b.val]{fullShare} f

/-- The rows a message is read from, as the sender holds them meanwhile. -/
def srcPts (c : Dev nD) : Msg → sProp 𝕄
  | .x k => argPts c (argChunk (argBlk c (.x k))) fullShare.left (A c)
  | .d k => argPts c (argChunk (argBlk c (.d k))) fullShare.left (A c)
  | .y1 k => outPts c (outChunk (dstBlk c (.y1 k))) fullShare.left (goal A c)
  | .z1 k => outPts c (outChunk (dstBlk c (.z1 k))) fullShare.right (goal A c)
  | .y2 k => outPts c (outChunk (dstBlk c (.y2 k))) fullShare (goal A c)
  | .z2 k => outPts c (outChunk (dstBlk c (.z2 k))) fullShare (goal A c)

/-- What each name stands for on device `c`. -/
def den (c : Dev nD) : Res → sProp 𝕄
  | .at k r => iprop(atPos ER (kcell c k) r ∅ 0 ∗ reached ER (kcell c k) r)
  | .cred k => cred (tallyAt (kcell c k) () (roundAmt k))
  | .tok i => iprop(dutyTok ER (kcell c (.snd i)) 0 0 ∗ dutyTok ER (kcell (peer i c) (.rcv i)) 0 0)
  | .dst i => iprop(∃ f, outPts (peer i c) (outChunk (dstBlk c i)) fullShare f)
  | .src i => srcPts A c i
  | .keep i => outPts c (outChunk (dstBlk (peer i c) i)) fullShare (goal A c)
  | .raw i => iprop(∃ f, outPts c (outChunk (dstBlk (peer i c) i)) fullShare f)
  | .barT p => dutyTok ER (kcell (nbr p c) .bar) 0 p
  | .argP j => argPts c (argRows j) fullShare.right (A c)
  | .outP j => iprop(∃ f, outPts c (outRows (16 * (c.val / 4) + j)) fullShare f)
  | .outD j => outPts c (outRows (16 * (c.val / 4) + j)) fullShare (goal A c)
  | .slotFree b => iprop(∃ f, slotPts c b f)
  | .slotFull j => iprop(∃ f : S2x2048x1024.Idx → Elt F .f32, ⌜(slotV (slotOf j)).view.read (Elt F) f = (argPiece j).view.read (Elt F) (A c)⌝ ∗ slotPts c (slotOf j) f)
  | .ldT j => dutyTok ER (kcell c (.ld (slotOf j))) (roundOf j) 0
  | .stT j => dutyTok ER (kcell c (.st (slotOf j))) (roundOf j) 0

/-- The messages along an axis. -/
def along (p : Fin 3) : List Msg := msgs.filter fun i => i.axis = p

/-- What a payment at a cell hands its owner. -/
def pay (c : Dev nD) : Cell → ℕ → Fin 3 → sProp 𝕄
  | .bar, _, p => bigSepL (along p) fun i => den A c (.dst i)
  | .snd i, _, _ => den A c (.src i)
  | .rcv i, _, _ => den A c (.keep i)
  | .ld b, r, _ => iprop(den A c (.argP (pieceAt b r)) ∗ den A c (.slotFull (pieceAt b r)))
  | .st b, r, _ => iprop(den A c (.slotFree b) ∗ den A c (.outD (pieceAt b r)))

instance outPts_storable (c : Dev nD) (S) (q) (f) : BI.Storable (upEmb : UEmb _ 𝕄) (outPts (F := F) c S q f) := by unfold outPts; infer_instance
instance argPts_storable (c : Dev nD) (S) (q) (f) : BI.Storable (upEmb : UEmb _ 𝕄) (argPts (F := F) c S q f) := by unfold argPts; infer_instance
instance slotPts_storable (c : Dev nD) (b) (f) : BI.Storable (upEmb : UEmb _ 𝕄) (slotPts (F := F) c b f) := by unfold slotPts; infer_instance

theorem bigSepL_storable {I : Type} (Φ : I → sProp 𝕄) (h : ∀ i, BI.Storable (upEmb : UEmb _ 𝕄) (Φ i)) (l : List I) :
    BI.Storable (upEmb : UEmb _ 𝕄) (bigSepL l Φ) := by
  induction l with
  | nil => exact inferInstanceAs (BI.Storable (upEmb : UEmb _ 𝕄) (iprop(emp) : sProp 𝕄))
  | cons i l ih => rw [bigSepL_cons']; infer_instance

/-- The names a payment can hand over. -/
def Res.Payable : Res → Prop
  | .dst _ | .src _ | .keep _ | .argP _ | .outD _ | .slotFree _ | .slotFull _ => True
  | _ => False

theorem den_storable (c : Dev nD) (x : Res) (hx : x.Payable) : BI.Storable (upEmb : UEmb _ 𝕄) (den (F := F) A c x) := by
  cases x with
  | src i => cases i <;> (dsimp only [den, srcPts]; infer_instance)
  | _ => first | exact hx.elim | (dsimp only [den]; infer_instance)

instance pay_storable (c : Dev nD) (k : Cell) (r : ℕ) (p : Fin 3) : BI.Storable (upEmb : UEmb _ 𝕄) (pay (F := F) A c k r p) := by
  cases k with
  | bar => exact bigSepL_storable _ (fun i => den_storable A c (.dst i) trivial) _
  | snd i => exact den_storable A c (.src i) trivial
  | rcv i => exact den_storable A c (.keep i) trivial
  | ld b =>
    have := den_storable A c (.argP (pieceAt b r)) trivial
    have := den_storable A c (.slotFull (pieceAt b r)) trivial
    exact inferInstanceAs (BI.Storable _ (iprop(den A c (.argP (pieceAt b r)) ∗ den A c (.slotFull (pieceAt b r)))))
  | st b =>
    have := den_storable A c (.slotFree b) trivial
    have := den_storable A c (.outD (pieceAt b r)) trivial
    exact inferInstanceAs (BI.Storable _ (iprop(den A c (.slotFree b) ∗ den A c (.outD (pieceAt b r)))))

/-! ## The schedule -/

/-- The payments of a cell's round. -/
def dutiesOf : Cell → ℕ → Finset (Fin 3)
  | .bar, r => if r = 0 then Finset.univ else ∅
  | .snd _, r | .rcv _, r => if r = 0 then {0} else ∅
  | .ld _, r | .st _, r => if r < 8 then {0} else ∅

/-- The number of rounds a cell has. -/
def lastRound : Cell → ℕ
  | .bar | .snd _ | .rcv _ => 1
  | .ld _ | .st _ => 8

/-- The schedule of all cells: the cells of a device's own thread, by what they are. -/
def sched : Rounds.Schedule (GSem nD τ sig) (Fin 3) 𝕄 where
  duties g r := if g.1.2 = .tc then dutiesOf (decode g.2) r else ∅
  unitless _ := False
  amount g _ _ := amt (decode g.2)
  payload g r p := pay A g.1.1 (decode g.2) r p
  amount_pos g _ _ _ := by
    cases decode g.2 <;> first | exact Nat.one_pos | exact msgAmt_pos | exact pieceAmt_pos

instance sched_storable (g : GSem nD τ sig) (r : ℕ) (p : Fin 3) :
    BI.Storable (upEmb : UEmb _ 𝕄) ((sched (F := F) A).payload g r p) := pay_storable A g.1.1 (decode g.2) r p

theorem duties_eq (c : Dev nD) (k : Cell) (r : ℕ) : (sched (F := F) A).duties (kcell c k) r = dutiesOf k r := by
  dsimp only [sched, kcell]
  rw [if_pos rfl, decode_loc]
theorem amount_eq (c : Dev nD) (k : Cell) (r : ℕ) (p : Fin 3) : (sched (F := F) A).amount (kcell c k) r p = amt k :=
  congrArg amt (decode_loc k)
theorem payload_eq (c : Dev nD) (k : Cell) (r : ℕ) (p : Fin 3) : (sched (F := F) A).payload (kcell c k) r p = pay A c k r p :=
  congrArg (fun k => pay A c k r p) (decode_loc k)

theorem duties_done (c : Dev nD) (k : Cell) : ∀ r, lastRound k ≤ r → (sched (F := F) A).duties (kcell c k) r = ∅ := by
  intro r hr
  rw [duties_eq]
  cases k <;> simp only [lastRound, dutiesOf] at hr ⊢ <;> exact if_neg (by omega)

theorem expect_eq (c : Dev nD) (k : Cell) (r : ℕ) (hr : r < lastRound k) : (sched (F := F) A).expect (kcell c k) r = roundAmt k := by
  unfold Schedule.expect Schedule.amountOf
  rw [duties_eq, Finset.sum_congr rfl fun p _ => amount_eq A c k r p, Finset.sum_const]
  cases k <;> simp only [lastRound, dutiesOf] at hr ⊢ <;> rw [if_pos (by omega)] <;> simp [roundAmt, amt]

/-! ## Levels -/

/-- What a device owes: a signal to a neighbour, a message's arrival. -/
inductive Ob where
  | bar (p : Fin 3)
  | msg (i : Msg)
  deriving DecidableEq

def Ob.tgt (c : Dev nD) : Ob → Dev nD
  | .bar p => nbr p c
  | .msg i => peer i c
def Ob.cell : Ob → Cell
  | .bar _ => .bar
  | .msg i => .rcv i

/-- A message's level: what travels later is above what it waits for. -/
def Msg.level : Msg → ℕ
  | .x _ | .d _ => 2
  | .y1 _ | .z1 _ => 3
  | .y2 _ | .z2 _ => 4
def Cell.level : Cell → ℕ
  | .bar => 1
  | .rcv i => i.level
  | _ => 0

def L (g : GSem nD τ sig) : Finset Unit := if g.1.2 = .tc then {()} else ∅
def lv (g : GSem nD τ sig) (_ : Unit) : ℕ := (decode g.2).level

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Cell) (u : Unit) : lv (kcell c k) u = k.level := congrArg Cell.level (decode_loc k)

/-- One thing owed, and a list of them. -/
def owe (c : Dev nD) (o : Ob) : CellTallies nD τ sig Unit := tallyAt (kcell (o.tgt c) o.cell) () (amt o.cell)
def oweAll (c : Dev nD) (l : List Ob) : CellTallies nD τ sig Unit := (l.map (owe c)).sum

theorem oweAll_cons (c : Dev nD) (o : Ob) (l : List Ob) : oweAll c (o :: l) = oweAll c l + owe c o := by
  unfold oweAll; rw [List.map_cons, List.sum_cons, add_comm]

theorem oweAll_pos {c : Dev nD} {l : List Ob} {g : GSem nD τ sig} {u : Unit} (h : 0 < oweAll c l g u) :
    ∃ o ∈ l, g = kcell (o.tgt c) o.cell := by
  induction l with
  | nil => exact absurd h (Nat.lt_irrefl 0)
  | cons o l ih =>
    rw [oweAll_cons, Pi.add_apply, Finsupp.add_apply] at h
    by_cases hl : 0 < oweAll c l g u
    · obtain ⟨o', ho', e⟩ := ih hl
      exact ⟨o', List.mem_cons_of_mem _ ho', e⟩
    · refine ⟨o, List.mem_cons_self, ?_⟩
      by_contra hg
      unfold owe at h
      rw [tallyAt_apply, if_neg (fun h' => hg h'.1)] at h
      exact hl (by omega)

/-- A device may wait at a cell once all it owes lies above it. -/
theorem mayWait (c : Dev nD) (k : Cell) (l : List Ob) (h : ∀ o ∈ l, k.level < o.cell.level) :
    (levAts L lv : sProp 𝕄) ⊢ MayWait (c : Thread nD τ) (loc k) () (oweAll c l) :=
  MayOwe.of_cut (L := L) (lev := lv) k.level
    (fun p hp => by rw [Finset.mem_singleton.mp hp, L_tc]; exact Finset.mem_singleton_self _)
    (fun g u hg => by obtain ⟨o, -, rfl⟩ := oweAll_pos hg; exact Finset.mem_singleton_self _)
    (fun p hp => by rw [Finset.mem_singleton.mp hp]; exact (lv_kcell c k ()).le)
    (fun g u hg => by obtain ⟨o, ho, rfl⟩ := oweAll_pos hg; rw [lv_kcell]; exact h o ho)

end Cert.KernelIdeal.Gather
-- ==== Proof.Ledger.lean ====
/-
  The run of a device as a computation: each step takes some of what the device holds and leaves something else.
-/
module

public import proofs.«01_k».proof.Proof.Protocol

@[expose] public section

namespace Cert.KernelIdeal.Gather

/-! ## Each step -/

/-- What an arrived message is kept as: a share for each of the messages it is sent on in. -/
def landed : Msg → List Res
  | .x k => [.src (.y1 k), .src (.z1 k)]
  | .z1 k => if h : 7 ≤ k.val ∧ k.val < 12 then [.src (.y2 ⟨k.val - 7, by omega⟩)] else [.keep (.z1 k)]
  | .y1 k => if h : 12 ≤ k.val then [.src (.z2 ⟨k.val - 12, by omega⟩)] else [.keep (.y1 k)]
  | i => [.keep i]

/-- What a step takes. -/
def Step.need : Step → List Res
  | .signal p => .barT p :: (along p).map .raw
  | .await => [.at .bar 0, .cred .bar]
  | .send i => [.tok i, .dst i, .src i]
  | .recv i => [.at (.rcv i) 0, .cred (.rcv i)]
  | .sent i => [.at (.snd i) 0, .cred (.snd i)]
  | .load j => [.at (.ld (slotOf j)) (roundOf j), .argP j, .slotFree (slotOf j), .ldT j]
  | .loaded j => [.at (.ld (slotOf j)) (roundOf j), .cred (.ld (slotOf j))]
  | .store j => [.at (.st (slotOf j)) (roundOf j), .slotFull j, .outP j, .stT j]
  | .stored j => [.at (.st (slotOf j)) (roundOf j), .cred (.st (slotOf j))]

/-- What a step leaves. -/
def Step.give : Step → List Res
  | .signal _ => []
  | .await => .at .bar 1 :: ((along 0).map .dst ++ ((along 1).map .dst ++ (along 2).map .dst))
  | .send i => [.cred (.snd i)]
  | .recv i => .at (.rcv i) 1 :: landed i
  | .sent i => [.at (.snd i) 1, .src i]
  | .load j => [.at (.ld (slotOf j)) (roundOf j), .cred (.ld (slotOf j))]
  | .loaded j => [.at (.ld (slotOf j)) (roundOf j + 1), .argP j, .slotFull j]
  | .store j => [.at (.st (slotOf j)) (roundOf j), .cred (.st (slotOf j))]
  | .stored j => [.at (.st (slotOf j)) (roundOf j + 1), .slotFree (slotOf j), .outD j]

/-- What a step pays of what the device owes. -/
def Step.pays : Step → List Ob
  | .signal p => [.bar p]
  | .send i => [.msg i]
  | _ => []

/-- The cell a step waits at. -/
def Step.waitsAt : Step → Option Cell
  | .await => some .bar
  | .recv i => some (.rcv i)
  | .sent i => some (.snd i)
  | .loaded j => some (.ld (slotOf j))
  | .stored j => some (.st (slotOf j))
  | _ => none

/-- A step may be taken while `l` is owed: it waits below all of it. -/
def Step.fine (s : Step) (l : List Ob) : Bool :=
  match s.waitsAt with
  | some k => l.all fun o => decide (k.level < o.cell.level)
  | none => true

/-! ## A list of steps -/

/-- Taking one thing, some things, out of a list. -/
def take1 (x : Res) : List Res → Option (List Res)
  | [] => none
  | y :: l => if x = y then some l else (take1 x l).map (y :: ·)
def takeAll : List Res → List Res → Option (List Res)
  | [], l => some l
  | x :: xs, l => (take1 x l).bind (takeAll xs)

/-- What is owed after a payment. -/
def payOff : List Ob → List Ob → Option (List Ob)
  | [], l => some l
  | _ :: _, [] => none
  | o :: os, o' :: l => if o = o' then payOff os l else none

/-- What a device holds and owes after a list of steps. -/
def exec : List Step → List Res → List Ob → Option (List Res × List Ob)
  | [], l, o => some (l, o)
  | s :: ss, l, o => (takeAll s.need l).bind fun l' => (payOff s.pays o).bind fun o' =>
      if s.fine o' then exec ss (s.give ++ l') o' else none

/-! ## The kernel's -/

def upTo2 : List (Fin 2) := [0, 1]
def upTo3 : List (Fin 3) := [0, 1, 2]

/-- What a device holds at the start. -/
def initial : List Res :=
  cells.map (.at · 0) ++ ((.cred .bar :: msgs.map fun i => .cred (.rcv i)) ++ (msgs.map .tok ++ (msgs.map .raw ++ (upTo3.map .barT
    ++ ((along 0).map .src ++ (upTo16.map .argP ++ (upTo16.map .outP ++ (upTo2.map .slotFree ++ (upTo16.map .ldT ++ upTo16.map .stT)))))))))

/-- What it owes. -/
def owed : List Ob := steps.flatMap Step.pays

/-- What an arrived message's rows are held as in the end. -/
def kept : Msg → Res
  | .x k => .src (.y1 k)
  | .z1 k => if h : 7 ≤ k.val ∧ k.val < 12 then .src (.y2 ⟨k.val - 7, by omega⟩) else .keep (.z1 k)
  | .y1 k => if h : 12 ≤ k.val then .src (.z2 ⟨k.val - 12, by omega⟩) else .keep (.y1 k)
  | i => .keep i

/-- What it is to hold in the end. -/
def final : List Res :=
  cells.map (fun k => .at k (lastRound k)) ++ (msgs.map kept ++ (upTo16.map .argP ++ (upTo16.map .outD ++ upTo2.map .slotFree)))

end Cert.KernelIdeal.Gather
-- ==== Proof.StepRules.lean ====
/-
  Each step does what the ledger says: from what it takes, it leaves what it gives.
-/
module

public import proofs.«01_k».proof.Proof.Ledger

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F] [Facts]

local notation "𝕄" => MT nD τ sig Unit (Elt F) ℕ UU ℕ

variable (A : Dev nD → S32768x1024.Idx → Elt F .f32)

abbrev 𝒱₀ : Variants := Variants.none

/-! ## What every device knows -/

/-- The invariants of all cells, that each is past its round 0's start, and the levels. -/
def records (K : Dev nD × Cell → ℕ) : sProp 𝕄 :=
  iprop((bigSep Finset.univ fun x : Dev nD × Cell => cellInv ER (sched A) (K x) (kcell x.1 x.2))
    ∗ (bigSep Finset.univ fun x : Dev nD × Cell => reached ER (kcell x.1 x.2) 0) ∗ levAts L lv)

instance records_persistent (K : Dev nD × Cell → ℕ) : BI.Persistent (records (F := F) A K) := by unfold records; infer_instance

theorem inv_of (K : Dev nD × Cell → ℕ) (c : Dev nD) (k : Cell) : records A K ⊢ cellInv ER (sched (F := F) A) (K (c, k)) (kcell c k) := by
  unfold records
  iintro ⟨H, -, -⟩
  have h : (bigSep Finset.univ fun x : Dev nD × Cell => (cellInv ER (sched A) (K x) (kcell x.1 x.2) : sProp 𝕄)) ⊢ cellInv ER (sched (F := F) A) (K (c, k)) (kcell c k) :=
    bigSep_elim (Finset.mem_univ (c, k))
  iapply h; iexact H
theorem reached_of (K : Dev nD × Cell → ℕ) (c : Dev nD) (k : Cell) : records (F := F) A K ⊢ reached ER (kcell c k) 0 := by
  unfold records
  iintro ⟨-, H, -⟩
  have h : (bigSep Finset.univ fun x : Dev nD × Cell => (reached ER (kcell x.1 x.2) 0 : sProp 𝕄)) ⊢ reached ER (kcell c k) 0 :=
    bigSep_elim (Finset.mem_univ (c, k))
  iapply h; iexact H
theorem levels_of (K : Dev nD × Cell → ℕ) : records (F := F) A K ⊢ levAts L lv := by
  unfold records
  iintro ⟨-, -, H⟩
  iexact H

/-! ## Credits -/

theorem credit_msg {sp : Space} (v : View sig .tc sp S512x1024 .f32) : v.dmaCredit = msgAmt := rfl
theorem credit_piece {sp : Space} (v : View sig .tc sp S2048x1024 .f32) : v.dmaCredit = pieceAmt := rfl

/-! ## Waits -/

/-- The device's run from a program on. -/
abbrev wpc (c : Dev nD) (p : Prog (TpuEff nD τ sig (Elt F) Λ₀ .tc) PUnit) (Q : PUnit.{1} → sProp 𝕄) : sProp 𝕄 :=
  wp frame (wpE (defs₀ (F := F)) 𝒱₀ (c : Thread nD τ) none) Set.univ p Q

variable (K : Dev nD × Cell → ℕ) (c : Dev nD) {Q : PUnit.{1} → sProp (MT nD τ sig Unit (Elt F) ℕ UU ℕ)} (k : PUnit.{1} → Prog (TpuEff nD τ sig (Elt F) Λ₀ .tc) PUnit)

theorem round_pay (q : Cell) (r : ℕ) :
    bigSep ((sched (F := F) A).duties (kcell c q) r \ ∅) (fun p => (sched A).payload (kcell c q) r p) = bigSep (dutiesOf q r) (fun p => pay A c q r p) := by
  rw [Finset.sdiff_empty, duties_eq]; exact bigSep_congr fun p _ => payload_eq A c q r p

/-- A wait for a round: the device moves to the next and receives what the round's payments hand over. -/
theorem wait_rule (q : Cell) (r : ℕ) (hr : r < lastRound q) (l : List Ob) (hl : ∀ o ∈ l, q.level < o.cell.level)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (loc q) (roundAmt q) K)
    (W : Waits sig Unit) :
    iprop(records A K ∗ den A c (.at q r) ∗ den A c (.cred q) ∗ owes (c : Thread nD τ) (oweAll c l) W)
      ⊢ iprop(((∃ W', owes (c : Thread nD τ) (oweAll c l) W') ∗ den A c (.at q (r + 1)) ∗ bigSep (dutiesOf q r) (fun p => pay A c q r p)
            -∗ wpc c (k ⟨⟩) Q) -∗ wpc c (.op w k) Q) := by
  dsimp only [den]
  have hrule := Rounds.wp_wait_rest_token 𝒱₀ ER (sched A) (c : Thread nD τ) none (κ := K (c, q)) (Q := Q) (k := k) hw (Set.mem_univ _) () (O := oweAll c l) (W := W)
      (R := r) (m := 0) (T := ∅) ((Nat.zero_add _).trans (expect_eq A c q r hr).symm)
  iintro ⟨#HR, ⟨Hat, -⟩, Hcr, HO⟩ Hk
  iapply hrule $$ [Hcr HO Hat]
  · isplitr; · iapply (inv_of A K c q); iexact HR
    isplitl [Hcr]; · iexact Hcr
    isplitl [HO]; · iexact HO
    isplitr; · iapply (mayWait c q l hl); iapply (levels_of A K); iexact HR
    iexact Hat
  iintro ⟨HO, Hat, Hr, Hpay⟩
  iapply Hk
  isplitl [HO]; · iexists _; iexact HO
  isplitl [Hat Hr]
  · isplitl [Hat]; · iexact Hat
    iexact Hr
  iapply (Entails.of_eq (round_pay A c q r))
  iexact Hpay

/-! ## Shares and regions of the messages -/

theorem den_dst (i : Msg) : den (F := F) A c (.dst i) = iprop(∃ f, outPts (peer i c) (outChunk (dstBlk c i)) fullShare f) := rfl
theorem den_raw (i : Msg) : den (F := F) A c (.raw i) = iprop(∃ f, outPts c (outChunk (dstBlk (peer i c) i)) fullShare f) := rfl
theorem den_keep (i : Msg) : den (F := F) A c (.keep i) = outPts c (outChunk (dstBlk (peer i c) i)) fullShare (goal A c) := rfl
theorem den_tok (i : Msg) : den (F := F) A c (.tok i) = iprop(dutyTok ER (kcell c (.snd i)) 0 0 ∗ dutyTok ER (kcell (peer i c) (.rcv i)) 0 0) := rfl

theorem den_cred_snd (i : Msg) : den (F := F) A c (.cred (.snd i)) = cred (tallyAt (kcell c (.snd i)) () msgAmt) := rfl
theorem den_cred_ld (b : Fin 2) : den (F := F) A c (.cred (.ld b)) = cred (tallyAt (kcell c (.ld b)) () pieceAmt) := rfl
theorem den_cred_st (b : Fin 2) : den (F := F) A c (.cred (.st b)) = cred (tallyAt (kcell c (.st b)) () pieceAmt) := rfl
theorem den_at (q : Cell) (r : ℕ) : den (F := F) A c (.at q r) = iprop(atPos ER (kcell c q) r ∅ 0 ∗ reached ER (kcell c q) r) := rfl
theorem den_slotFree (b : Fin 2) : den (F := F) A c (.slotFree b) = iprop(∃ f, slotPts c b f) := rfl
theorem den_slotFull (j : Fin 16) : den (F := F) A c (.slotFull j)
    = iprop(∃ f : S2x2048x1024.Idx → Elt F .f32, ⌜(slotV (slotOf j)).view.read (Elt F) f = (argPiece j).view.read (Elt F) (A c)⌝ ∗ slotPts c (slotOf j) f) := rfl
theorem den_argP (j : Fin 16) : den (F := F) A c (.argP j) = argPts c (argRows j) fullShare.right (A c) := rfl
theorem den_outP (j : Fin 16) : den (F := F) A c (.outP j) = iprop(∃ f, outPts c (outRows (16 * (c.val / 4) + j)) fullShare f) := rfl
theorem den_outD (j : Fin 16) : den (F := F) A c (.outD j) = outPts c (outRows (16 * (c.val / 4) + j)) fullShare (goal A c) := rfl
theorem den_ldT (j : Fin 16) : den (F := F) A c (.ldT j) = dutyTok ER (kcell c (.ld (slotOf j))) (roundOf j) 0 := rfl
theorem den_stT (j : Fin 16) : den (F := F) A c (.stT j) = dutyTok ER (kcell c (.st (slotOf j))) (roundOf j) 0 := rfl
theorem den_barT (p : Fin 3) : den (F := F) A c (.barT p) = dutyTok ER (kcell (nbr p c) .bar) 0 p := rfl
theorem pay_rcv (i : Msg) (r : ℕ) (p : Fin 3) : pay (F := F) A c (.rcv i) r p = den A c (.keep i) := rfl
theorem pay_snd (i : Msg) (r : ℕ) (p : Fin 3) : pay (F := F) A c (.snd i) r p = den A c (.src i) := rfl

/-- The rows a neighbour is to receive are the rows a message from here is written to. -/
theorem raw_dst (i : Msg) : den (F := F) A (peer i c) (.dst i) = den A c (.raw i) := by
  rw [den_dst, den_raw, peer_peer]

theorem raws_dst (p : Fin 3) (l : List Msg) (hl : ∀ i ∈ l, i.axis = p) :
    bigSepL l (fun i => den (F := F) A (nbr p c) (.dst i)) = bigSepL l (fun i => den A c (.raw i)) := by
  induction l with
  | nil => rw [bigSepL_nil, bigSepL_nil]
  | cons i l ih =>
    have hi : nbr p c = peer i c := congrArg (fun p => nbr p c) (hl i List.mem_cons_self).symm
    rw [bigSepL_cons', bigSepL_cons', ih fun j hj => hl j (List.mem_cons_of_mem _ hj), hi, raw_dst]

theorem mem_along {p : Fin 3} {i : Msg} (h : i ∈ along p) : i.axis = p := of_decide_eq_true (List.mem_filter.mp h).2

/-- What a signal hands the neighbour: the rows it is to write to. -/
theorem pay_bar (p : Fin 3) : pay (F := F) A (nbr p c) .bar 0 p = bigSepL (along p) (fun i => den A c (.raw i)) :=
  raws_dst A c p (along p) fun _ h => mem_along h

theorem relay_y : ∀ (c : Dev nD) (k : Fin 16), dstBlk (peer (.x k) c) (.x k) = dstBlk c (.y1 k) := by decide +kernel
theorem relay_z : ∀ (c : Dev nD) (k : Fin 16), dstBlk (peer (.x k) c) (.x k) = dstBlk c (.z1 k) := by decide +kernel
theorem relay_y2 : ∀ (c : Dev nD) (k : Fin 16) (h : 7 ≤ k.val ∧ k.val < 12), dstBlk (peer (.z1 k) c) (.z1 k) = dstBlk c (.y2 ⟨k.val - 7, by omega⟩) := by decide +kernel
theorem relay_z2 : ∀ (c : Dev nD) (k : Fin 16) (h : 12 ≤ k.val), dstBlk (peer (.y1 k) c) (.y1 k) = dstBlk c (.z2 ⟨k.val - 12, by omega⟩) := by decide +kernel

/-- An arrived message is kept as the sources of what is sent on. -/
theorem landed_of (i : Msg) : den A c (.keep i) ⊢ bigSepL (landed i) (den A c) := by
  cases i with
  | x k =>
    dsimp only [landed]
    rw [bigSepL_cons', bigSepL_singleton]
    dsimp only [den, srcPts]
    rw [← relay_y, ← relay_z]
    unfold outPts
    exact (pointsTo_share (PosShare.mem_left_op_right fullShare)).1
  | d k => exact Entails.of_eq (bigSepL_singleton _ _).symm
  | y1 k =>
    dsimp only [landed]
    by_cases h : 12 ≤ k.val
    · rw [dif_pos h, bigSepL_singleton]
      show outPts c (outChunk (dstBlk (peer (.y1 k) c) (.y1 k))) fullShare (goal A c) ⊢ _
      rw [relay_z2 c k h]; exact Entails.refl _
    · rw [dif_neg h, bigSepL_singleton]
  | z1 k =>
    dsimp only [landed]
    by_cases h : 7 ≤ k.val ∧ k.val < 12
    · rw [dif_pos h, bigSepL_singleton]
      show outPts c (outChunk (dstBlk (peer (.z1 k) c) (.z1 k))) fullShare (goal A c) ⊢ _
      rw [relay_y2 c k h]; exact Entails.refl _
    · rw [dif_neg h, bigSepL_singleton]
  | y2 k => exact Entails.of_eq (bigSepL_singleton _ _).symm
  | z2 k => exact Entails.of_eq (bigSepL_singleton _ _).symm

/-! ## Sends -/

/-- The source rows' share and contents. -/
def srcShare : Msg → PosShare TreeShare
  | .x _ | .d _ | .y1 _ => fullShare.left
  | .z1 _ => fullShare.right
  | .y2 _ | .z2 _ => fullShare

theorem dstV_set (i : Msg) : (dstV c i).view.set = outChunk (dstBlk c i) := outV_set _ _ _ (dstOff_eq c i)

/-- The rows a message is written to, on the receiver, by the view that writes them. -/
theorem dst_pts (n : Dev nD) (i : Msg) (f : S65536x1024.Idx → Elt F .f32) :
    ((dstV c i).view.loc (n : Thread nD τ) ↦[(dstV c i).view.set]{fullShare} f : sProp 𝕄) = outPts n (outChunk (dstBlk c i)) fullShare f := by
  rw [dstV_set]; rfl

/-- A message written is what the receiver is to hold. -/
theorem arrived (i : Msg) (fd : S65536x1024.Idx → Elt F .f32) (w : S512x1024.Idx → Elt F .f32)
    (hval : ∀ x, (dstV c i).view.read (Elt F) (goal A (peer i c)) x = w x) :
    ((dstV c i).view.loc (peer i c : Thread nD τ) ↦[(dstV c i).view.set]{fullShare} ((dstV c i).view.write (Elt F) fd w Finset.univ) : sProp 𝕄)
      ⊢ den A (peer i c) (.keep i) := by
  rw [den_keep, peer_peer, ← dst_pts]
  exact Entails.of_eq (pointsTo_congr fun j hj => write_read_of (dstV c i).view fd (goal A (peer i c)) w hval j hj)

/-- A message sent, whatever its source `v`: the source's share comes back at the sender's cell, the receiver's
    rows, rewritten, go to the receiver. -/
theorem send_rule (n : Dev nD) (i : Msg) (v w : Memref sig .tc .hbm S512x1024 .f32) (q : PosShare TreeShare)
    (fs : Buf (Elt F) (v.view.loc (c : Thread nD τ))) (fd : Buf (Elt F) (w.view.loc (n : Thread nD τ)))
    (hsrc : (v.view.loc (c : Thread nD τ) ↦[v.view.set]{q} fs : sProp 𝕄) ⊢ den (F := F) A c (.src i))
    (hdst : (w.view.loc (n : Thread nD τ) ↦[w.view.set]{fullShare} (w.view.write (Elt F) fd (v.view.read (Elt F) fs) Finset.univ) : sProp 𝕄) ⊢ den (F := F) A n (.keep i))
    {h1 : v.view.WordExact} {h2 : w.view.WordExact} {h0 : w.view.ref.isScScratch = false}
    {h3 : DmaTarget.Typed .hbm (.dma (recvSem i)) (.remote (n : Thread nD τ) w (.dma (sendSem i)) h0)}
    {O₀ : CellTallies nD τ sig Unit} (O : CellTallies nD τ sig Unit) (hO : O₀ = O + tallyAt (kcell n (.rcv i)) () msgAmt) (W : Waits sig Unit) :
    iprop(records A K ∗ (dutyTok ER (kcell c (.snd i)) 0 0 ∗ dutyTok ER (kcell n (.rcv i)) 0 0)
        ∗ (w.view.loc (n : Thread nD τ) ↦[w.view.set]{fullShare} fd) ∗ (v.view.loc (c : Thread nD τ) ↦[v.view.set]{q} fs) ∗ owes (c : Thread nD τ) O₀ W)
      ⊢ iprop((owes (c : Thread nD τ) O W ∗ den A c (.cred (.snd i)) -∗ wpc c (k ⟨⟩) Q)
          -∗ wpc c (.op (.enqueueDma v (.remote (n : Thread nD τ) w (.dma (sendSem i)) h0) (.dma (recvSem i)) h1 h2 h3) k) Q) := by
  have hrule := Rounds.wp_send_pointsTo 𝒱₀ ER (sched A) (c : Thread nD τ) none (κ₁ := K (c, .snd i)) (κ₂ := K (n, .rcv i)) (Q := Q) (k := k)
    (c' := (n : Thread nD τ)) (sS := SemLoc.dma (sendSem i)) (sem := SemLoc.dma (recvSem i)) (src := v) (dst := w) (hsrc := h1) (hdst := h2) (hsc := h0) (hsem := h3) (defs := defs₀ (F := F)) (Γ := PendingWaitsCtx.empty)
    (r₁ := 0) (r₂ := 0) (d₁ := 0) (d₂ := 0) (q := q) (fs := fs) (fd := fd)
    (show (0 : Fin 3) ∈ (sched (F := F) A).duties (kcell c (.snd i)) 0 by rw [duties_eq]; exact Finset.mem_singleton_self _)
    (show (0 : Fin 3) ∈ (sched (F := F) A).duties (kcell n (.rcv i)) 0 by rw [duties_eq]; exact Finset.mem_singleton_self _)
    () () msgAmt (credit_msg w.view) (show (sched (F := F) A).amount (kcell c (.snd i)) 0 0 = msgAmt from amount_eq A c (.snd i) 0 0)
    (show (sched (F := F) A).amount (kcell n (.rcv i)) 0 0 = msgAmt from amount_eq A n (.rcv i) 0 0) O hO (W := W)
    (hsrc.trans (Entails.of_eq (payload_eq A c (.snd i) 0 0).symm)) (hdst.trans (Entails.of_eq (payload_eq A n (.rcv i) 0 0).symm)) (Es := Set.univ)
  rw [show ((c : Thread nD τ), SemLoc.dma (sendSem i)) = kcell c (.snd i) from rfl, show ((n : Thread nD τ), SemLoc.dma (recvSem i)) = kcell n (.rcv i) from rfl,
    ← den_cred_snd A c i] at hrule
  iintro ⟨#HR, ⟨Ht1, Ht2⟩, Hd, Hs, HO⟩ Hk
  iapply hrule $$ [Ht1 Ht2 Hd Hs HO]
  · isplitr; · iapply (inv_of A K c (.snd i)); iexact HR
    isplitr; · iapply (inv_of A K n (.rcv i)); iexact HR
    isplitl [Hs]; · iexact Hs
    isplitl [Hd]; · iexact Hd
    isplitl [HO]; · iexact HO
    isplitl [Ht1]; · iexact Ht1
    isplitr; · iapply (reached_of A K c (.snd i)); iexact HR
    isplitl [Ht2]; · iexact Ht2
    iapply (reached_of A K n (.rcv i)); iexact HR
  iintro ⟨Hc, HO⟩
  iapply Hk
  isplitl [HO]; · iexact HO
  iexact Hc

/-! ## Local copies and signals -/

/-- A local copy of a piece, between any two views: the payment is made of the rewritten destination and the source. -/
theorem copy_rule (q : Cell) (r : ℕ) (sm : DmaSem sig) (hsm : loc q = .dma sm) (hq : amt q = pieceAmt) (hr : (0 : Fin 3) ∈ dutiesOf q r)
    {sp sp' : Space} (v : Memref sig .tc sp S2048x1024 .f32) (w : Memref sig .tc sp' S2048x1024 .f32) (qs : PosShare TreeShare)
    (fs : Buf (Elt F) (v.view.loc (c : Thread nD τ))) (fd : Buf (Elt F) (w.view.loc (c : Thread nD τ)))
    (hpay : iprop((w.view.loc (c : Thread nD τ) ↦[w.view.set]{fullShare} (w.view.write (Elt F) fd (v.view.read (Elt F) fs) Finset.univ))
        ∗ (v.view.loc (c : Thread nD τ) ↦[v.view.set]{qs} fs)) ⊢ pay (F := F) A c q r 0)
    {h1 : v.view.WordExact} {h2 : w.view.WordExact} {h3 : DmaTarget.Typed (nD := nD) sp (.dma sm) (DmaTarget.here (τ := τ) (p := Proc.tc) w)} :
    iprop(records A K ∗ reached ER (kcell c q) r ∗ dutyTok ER (kcell c q) r 0
        ∗ (v.view.loc (c : Thread nD τ) ↦[v.view.set]{qs} fs) ∗ (w.view.loc (c : Thread nD τ) ↦[w.view.set]{fullShare} fd))
      ⊢ iprop((cred (tallyAt (kcell c q) () pieceAmt) -∗ wpc c (k ⟨⟩) Q)
          -∗ wpc c (.op (.enqueueDma v (DmaTarget.here (τ := τ) (p := Proc.tc) w) (.dma sm) h1 h2 h3) k) Q) := by
  have hcell : ((c : Thread nD τ), SemLoc.dma sm) = kcell c q := by unfold kcell; rw [hsm]
  have hrule := Rounds.wp_copy_pointsTo 𝒱₀ ER (sched A) (c : Thread nD τ) none (κ := K (c, q)) (Q := Q) (k := k)
    (src := v) (dst := w) (sem := .dma sm) (hsrc := h1) (hdst := h2) (hsem := h3) (defs := defs₀ (F := F)) (Γ := PendingWaitsCtx.empty)
    (r := r) (d := 0) (q := qs) (fs := fs) (fd := fd)
    (show (0 : Fin 3) ∈ (sched (F := F) A).duties ((c : Thread nD τ), SemLoc.dma sm) r by rw [hcell, duties_eq]; exact hr)
    () pieceAmt (credit_piece w.view)
    (show (sched (F := F) A).amount ((c : Thread nD τ), SemLoc.dma sm) r 0 = pieceAmt by rw [hcell, amount_eq, hq])
    (hpay.trans (Entails.of_eq (show pay (F := F) A c q r 0 = (sched A).payload ((c : Thread nD τ), SemLoc.dma sm) r 0 by rw [hcell, payload_eq]))) (Es := Set.univ)
  rw [hcell] at hrule
  iintro ⟨#HR, Hr, Ht, Hs, Hd⟩ Hk
  iapply hrule $$ [Hr Ht Hs Hd]
  · isplitr; · iapply (inv_of A K c q); iexact HR
    isplitl [Hs]; · iexact Hs
    isplitl [Hd]; · iexact Hd
    isplitl [Ht]; · iexact Ht
    iexact Hr
  iexact Hk

/-- A signal to the barrier cell of a device, with what it hands over. -/
theorem signal_rule (n : Dev nD) (p : Fin 3) {O₀ : CellTallies nD τ sig Unit} (O : CellTallies nD τ sig Unit)
    (hO : O₀ = O + tallyAt (kcell n .bar) () 1) (W : Waits sig Unit) :
    iprop(records A K ∗ dutyTok ER (kcell n .bar) 0 p ∗ pay A n .bar 0 p ∗ owes (c : Thread nD τ) O₀ W)
      ⊢ iprop((owes (c : Thread nD τ) O W -∗ wpc c (k ⟨⟩) Q) -∗ wpc c (.op (.semSignal (n : Thread nD τ) barSem 1) k) Q) := by
  have hrule := Rounds.wp_signal 𝒱₀ ER (sched A) (c : Thread nD τ) none (κ := K (n, .bar)) (Q := Q) (k := k) (dst := (n : Thread nD τ)) (sem := barSem)
    (defs := defs₀ (F := F)) (Γ := PendingWaitsCtx.empty) (r := 0) (d := p) (k' := 1)
    (show p ∈ (sched (F := F) A).duties (kcell n .bar) 0 by rw [duties_eq]; exact Finset.mem_univ p)
    (show (sched (F := F) A).amount (kcell n .bar) 0 p = 1 from amount_eq A n .bar 0 p) () O hO (W := W) (Es := Set.univ)
  rw [show ((n : Thread nD τ), SemLoc.reg barSem) = kcell n .bar from rfl, payload_eq] at hrule
  iintro ⟨#HR, Ht, Hp, HO⟩ Hk
  iapply hrule $$ [Ht Hp HO]
  · isplitr; · iapply (inv_of A K n .bar); iexact HR
    isplitl [HO]; · iexact HO
    isplitl [Ht]; · iexact Ht
    isplitl [Hp]; · iexact Hp
    iapply (reached_of A K n .bar); iexact HR
  iexact Hk

end Cert.KernelIdeal.Gather
-- ==== Proof.Step.lean ====
/-
  The step rule: a step, whatever it is, does what the ledger says; and so does a list of steps.
-/
module

public import proofs.«01_k».proof.Proof.StepRules

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F] [Facts]

local notation "𝕄" => MT nD τ sig Unit (Elt F) ℕ UU ℕ

variable (A : Dev nD → S32768x1024.Idx → Elt F .f32) (K : Dev nD × Cell → ℕ) (c : Dev nD)
  {Q : PUnit.{1} → sProp (MT nD τ sig Unit (Elt F) ℕ UU ℕ)} (k : PUnit.{1} → Prog (TpuEff nD τ sig (Elt F) Λ₀ .tc) PUnit)

/-- What a device owes, whatever it has waited for. -/
def debt (l : List Ob) : sProp 𝕄 := iprop(∃ W, owes (c : Thread nD τ) (oweAll c l) W)

/-! ## What a round's payments come to -/

theorem round_bar : bigSep (dutiesOf .bar 0) (fun p => pay A c .bar 0 p) = bigSepL ((along 0).map .dst ++ ((along 1).map .dst ++ (along 2).map .dst)) (den A c) := by
  rw [bigSepL_append, bigSepL_append, bigSepL_map, bigSepL_map, bigSepL_map]
  exact (bigSep_univ_eq_bigSepL [0, 1, 2] (by decide) (by decide) _).trans (by rw [bigSepL_cons', bigSepL_cons', bigSepL_singleton]; rfl)

theorem round_rcv (i : Msg) : bigSep (dutiesOf (.rcv i) 0) (fun p => pay A c (.rcv i) 0 p) ⊢ bigSepL (landed i) (den A c) :=
  (Entails.of_eq (bigSep_singleton (i := (0 : Fin 3)) (Φ := fun p => pay A c (.rcv i) 0 p))).trans (landed_of A c i)

theorem round_snd (i : Msg) : bigSep (dutiesOf (.snd i) 0) (fun p => pay A c (.snd i) 0 p) ⊢ bigSepL [.src i] (den A c) :=
  Entails.of_eq (bigSep_singleton (i := (0 : Fin 3)) (Φ := fun p => pay A c (.snd i) 0 p))

theorem pay_ld (b : Fin 2) (r : ℕ) (p : Fin 3) : pay A c (.ld b) r p = iprop(den A c (.argP (pieceAt b r)) ∗ den A c (.slotFull (pieceAt b r))) := rfl
theorem pay_st (b : Fin 2) (r : ℕ) (p : Fin 3) : pay A c (.st b) r p = iprop(den A c (.slotFree b) ∗ den A c (.outD (pieceAt b r))) := rfl

theorem duties_ld (j : Fin 16) : dutiesOf (.ld (slotOf j)) (roundOf j) = {0} := if_pos (roundOf_lt j)
theorem duties_st (j : Fin 16) : dutiesOf (.st (slotOf j)) (roundOf j) = {0} := if_pos (roundOf_lt j)

theorem round_ld (j : Fin 16) : bigSep (dutiesOf (.ld (slotOf j)) (roundOf j)) (fun p => pay A c (.ld (slotOf j)) (roundOf j) p)
    ⊢ bigSepL [.argP j, .slotFull j] (den A c) := by
  rw [duties_ld, bigSep_singleton, pay_ld, pieceAt_slot, bigSepL_cons', bigSepL_singleton]

theorem round_st (j : Fin 16) : bigSep (dutiesOf (.st (slotOf j)) (roundOf j)) (fun p => pay A c (.st (slotOf j)) (roundOf j) p)
    ⊢ bigSepL [.slotFree (slotOf j), .outD j] (den A c) := by
  rw [duties_st, bigSep_singleton, pay_st, pieceAt_slot, bigSepL_cons', bigSepL_singleton]

/-! ## The kinds of steps -/

theorem den_two (x y : Res) : bigSepL [x, y] (den (F := F) A c) = iprop(den A c x ∗ den A c y) := by
  rw [bigSepL_cons', bigSepL_singleton]

theorem den_four (x y z w : Res) : bigSepL [x, y, z, w] (den (F := F) A c) = iprop(den A c x ∗ den A c y ∗ den A c z ∗ den A c w) := by
  rw [bigSepL_cons', bigSepL_cons', bigSepL_cons', bigSepL_singleton]

/-- A waiting step. -/
theorem wait_step (q : Cell) (r : ℕ) (hr : r < lastRound q) (l : List Ob) (hl : ∀ o ∈ l, q.level < o.cell.level)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (loc q) (roundAmt q) K)
    (G : List Res) (hG : bigSep (dutiesOf q r) (fun p => pay A c q r p) ⊢ bigSepL G (den A c)) (W : Waits sig Unit) :
    iprop(records A K ∗ bigSepL [.at q r, .cred q] (den A c) ∗ owes (c : Thread nD τ) (oweAll c l) W)
      ⊢ iprop((bigSepL (.at q (r + 1) :: G) (den A c) ∗ debt c l -∗ wpc c (k ⟨⟩) Q) -∗ wpc c (.op w k) Q) := by
  rw [bigSepL_cons', bigSepL_singleton, bigSepL_cons']
  unfold debt
  iintro ⟨#HR, ⟨Hat, Hcr⟩, HO⟩ Hk
  iapply (wait_rule A K c k q r hr l hl hw W) $$ [Hat Hcr HO]
  · isplitr; · iexact HR
    isplitl [Hat]; · iexact Hat
    isplitl [Hcr]; · iexact Hcr
    iexact HO
  iintro ⟨HO, Hat, Hp⟩
  iapply Hk
  isplitl [Hat Hp]
  · isplitl [Hat]; · iexact Hat
    iapply hG; iexact Hp
  iexact HO

/-- A signal. -/
theorem signal_step (p : Fin 3) (l : List Ob) (W : Waits sig Unit) :
    iprop(records A K ∗ bigSepL (.barT p :: (along p).map .raw) (den A c) ∗ owes (c : Thread nD τ) (oweAll c (.bar p :: l)) W)
      ⊢ iprop((bigSepL [] (den A c) ∗ debt c l -∗ wpc c (k ⟨⟩) Q) -∗ wpc c (.op (.semSignal (nbr p c : Thread nD τ) barSem 1) k) Q) := by
  rw [bigSepL_cons', bigSepL_map, ← pay_bar, bigSepL_nil, den_barT]
  unfold debt
  iintro ⟨#HR, ⟨Ht, Hp⟩, HO⟩ Hk
  iapply (signal_rule A K c k (nbr p c) p (oweAll c l) (oweAll_cons c (.bar p) l) W) $$ [Ht Hp HO]
  · isplitr; · iexact HR
    isplitl [Ht]; · iexact Ht
    isplitl [Hp]; · iexact Hp
    iexact HO
  iintro HO
  iapply Hk
  isplitr; · iempintro
  iexists W; iexact HO

/-- A message sent from a source the sender holds a share of. -/
theorem send_step (i : Msg) (v : Memref sig .tc .hbm S512x1024 .f32) (q : PosShare TreeShare) (fs : Buf (Elt F) (v.view.loc (c : Thread nD τ)))
    (hsrc : (v.view.loc (c : Thread nD τ) ↦[v.view.set]{q} fs : sProp 𝕄) = den (F := F) A c (.src i))
    (hval : ∀ x, (dstV c i).view.read (Elt F) (goal A (peer i c)) x = v.view.read (Elt F) fs x)
    {h1 : v.view.WordExact} {h2 : (dstV c i).view.WordExact} {h0 : (dstV c i).view.ref.isScScratch = false}
    {h3 : DmaTarget.Typed .hbm (.dma (recvSem i)) (.remote (peer i c : Thread nD τ) (dstV c i) (.dma (sendSem i)) h0)}
    (l : List Ob) (W : Waits sig Unit) :
    iprop(records A K ∗ bigSepL [.tok i, .dst i, .src i] (den A c) ∗ owes (c : Thread nD τ) (oweAll c (.msg i :: l)) W)
      ⊢ iprop((bigSepL [.cred (.snd i)] (den A c) ∗ debt c l -∗ wpc c (k ⟨⟩) Q)
          -∗ wpc c (.op (.enqueueDma v (.remote (peer i c : Thread nD τ) (dstV c i) (.dma (sendSem i)) h0) (.dma (recvSem i)) h1 h2 h3) k) Q) := by
  rw [bigSepL_cons', bigSepL_cons', bigSepL_singleton, bigSepL_singleton, den_tok, den_dst, ← hsrc]
  unfold debt
  iintro ⟨#HR, ⟨Ht, ⟨%fd, Hd⟩, Hs⟩, HO⟩ Hk
  iapply (send_rule A K c k (peer i c) i v (dstV c i) q fs fd (Entails.of_eq hsrc) (arrived A c i fd _ hval) (oweAll c l) (oweAll_cons c (.msg i) l) W) $$ [Ht Hd Hs HO]
  · isplitr; · iexact HR
    isplitl [Ht]; · iexact Ht
    isplitl [Hd]; · iapply (Entails.of_eq (dst_pts c (peer i c) i fd).symm); iexact Hd
    isplitl [Hs]; · iexact Hs
    iexact HO
  iintro ⟨HO, Hc⟩
  iapply Hk
  isplitl [Hc]; · iexact Hc
  iexists W; iexact HO

/-- A piece's load. -/
theorem load_step (j : Fin 16) {h1 : (argPiece j).view.WordExact} {h2 : (slotV (slotOf j)).view.WordExact}
    {h3 : DmaTarget.Typed (nD := nD) .hbm (.dma (loadSem (slotOf j))) (DmaTarget.here (τ := τ) (p := Proc.tc) (slotV (slotOf j)))}
    (l : List Ob) (W : Waits sig Unit) :
    iprop(records A K ∗ bigSepL [.at (.ld (slotOf j)) (roundOf j), .argP j, .slotFree (slotOf j), .ldT j] (den A c) ∗ owes (c : Thread nD τ) (oweAll c l) W)
      ⊢ iprop((bigSepL [.at (.ld (slotOf j)) (roundOf j), .cred (.ld (slotOf j))] (den A c) ∗ debt c l -∗ wpc c (k ⟨⟩) Q)
          -∗ wpc c (.op (.enqueueDma (argPiece j) (DmaTarget.here (τ := τ) (p := Proc.tc) (slotV (slotOf j))) (.dma (loadSem (slotOf j))) h1 h2 h3) k) Q) := by
  have harg : ((argPiece j).view.loc (c : Thread nD τ) ↦[(argPiece j).view.set]{fullShare.right} A c : sProp 𝕄) = den A c (.argP j) := by
    rw [argPiece_set]; rfl
  have hslot (f : S2x2048x1024.Idx → Elt F .f32) :
      ((slotV (slotOf j)).view.loc (c : Thread nD τ) ↦[(slotV (slotOf j)).view.set]{fullShare} f : sProp 𝕄) = slotPts c (slotOf j) f := by
    rw [slotV_set]; rfl
  have hpay (fd : S2x2048x1024.Idx → Elt F .f32) :
      iprop(((slotV (slotOf j)).view.loc (c : Thread nD τ) ↦[(slotV (slotOf j)).view.set]{fullShare} ((slotV (slotOf j)).view.write (Elt F) fd ((argPiece j).view.read (Elt F) (A c)) Finset.univ))
        ∗ ((argPiece j).view.loc (c : Thread nD τ) ↦[(argPiece j).view.set]{fullShare.right} A c)) ⊢ pay (F := F) A c (.ld (slotOf j)) (roundOf j) 0 := by
    rw [pay_ld, pieceAt_slot, harg]
    rw [den_slotFull]
    iintro ⟨H, Ha⟩
    isplitl [Ha]; · iexact Ha
    iexists _
    isplitr; swap
    · iapply (Entails.of_eq (hslot _)); iexact H
    · ipureintro; exact View.read_write_univ _ _
  rw [den_four, den_two, den_at, den_slotFree, den_ldT, ← harg, den_cred_ld]
  unfold debt
  iintro ⟨#HR, ⟨⟨Hat, #Hr⟩, Ha, ⟨%fd, Hs⟩, Ht⟩, HO⟩ Hk
  iapply (copy_rule A K c k (.ld (slotOf j)) (roundOf j) (loadSem (slotOf j)) rfl rfl (by rw [duties_ld]; exact Finset.mem_singleton_self _)
    (argPiece j) (slotV (slotOf j)) fullShare.right (A c) fd (hpay fd)) $$ [Ha Hs Ht]
  · isplitr; · iexact HR
    isplitr; · iexact Hr
    isplitl [Ht]; · iexact Ht
    isplitl [Ha]; · iexact Ha
    iapply (Entails.of_eq (hslot fd).symm); iexact Hs
  iintro Hc
  iapply Hk
  isplitr [HO]
  · isplitr [Hc]
    · isplitl; · iexact Hat
      iexact Hr
    iexact Hc
  iexists W; iexact HO

/-- A piece's store. -/
theorem store_step (j : Fin 16) {h1 : (slotV (slotOf j)).view.WordExact} {h2 : (outPiece c j).view.WordExact}
    {h3 : DmaTarget.Typed (nD := nD) .vmem (.dma (storeSem (slotOf j))) (DmaTarget.here (τ := τ) (p := Proc.tc) (outPiece c j))}
    (l : List Ob) (W : Waits sig Unit) :
    iprop(records A K ∗ bigSepL [.at (.st (slotOf j)) (roundOf j), .slotFull j, .outP j, .stT j] (den A c) ∗ owes (c : Thread nD τ) (oweAll c l) W)
      ⊢ iprop((bigSepL [.at (.st (slotOf j)) (roundOf j), .cred (.st (slotOf j))] (den A c) ∗ debt c l -∗ wpc c (k ⟨⟩) Q)
          -∗ wpc c (.op (.enqueueDma (slotV (slotOf j)) (DmaTarget.here (τ := τ) (p := Proc.tc) (outPiece c j)) (.dma (storeSem (slotOf j))) h1 h2 h3) k) Q) := by
  have hout (f : S65536x1024.Idx → Elt F .f32) :
      ((outPiece c j).view.loc (c : Thread nD τ) ↦[(outPiece c j).view.set]{fullShare} f : sProp 𝕄) = outPts c (outRows (16 * (c.val / 4) + j)) fullShare f := by
    rw [outPiece_set]; rfl
  have hslot (f : S2x2048x1024.Idx → Elt F .f32) :
      ((slotV (slotOf j)).view.loc (c : Thread nD τ) ↦[(slotV (slotOf j)).view.set]{fullShare} f : sProp 𝕄) = slotPts c (slotOf j) f := by
    rw [slotV_set]; rfl
  have hv (fs : S2x2048x1024.Idx → Elt F .f32) (hfs : (slotV (slotOf j)).view.read (Elt F) fs = (argPiece j).view.read (Elt F) (A c)) (x : S2048x1024.Idx) :
      (outPiece c j).view.read (Elt F) (goal A c) x = (slotV (slotOf j)).view.read (Elt F) fs x := by
    rw [goal_piece, hfs]
  have hpay (fs : S2x2048x1024.Idx → Elt F .f32) (fd : S65536x1024.Idx → Elt F .f32)
      (hfs : (slotV (slotOf j)).view.read (Elt F) fs = (argPiece j).view.read (Elt F) (A c)) :
      iprop(((outPiece c j).view.loc (c : Thread nD τ) ↦[(outPiece c j).view.set]{fullShare} ((outPiece c j).view.write (Elt F) fd ((slotV (slotOf j)).view.read (Elt F) fs) Finset.univ))
        ∗ ((slotV (slotOf j)).view.loc (c : Thread nD τ) ↦[(slotV (slotOf j)).view.set]{fullShare} fs)) ⊢ pay (F := F) A c (.st (slotOf j)) (roundOf j) 0 := by
    rw [pay_st, pieceAt_slot, hslot, den_slotFree, den_outD, ← hout]
    iintro ⟨H, Hs⟩
    isplitl [Hs]; · iexists fs; iexact Hs
    iapply (Entails.of_eq (pointsTo_congr fun i hi => write_read_of (outPiece c j).view fd (goal A c) _ (hv fs hfs) i hi)); iexact H
  rw [den_four, den_two, den_at, den_slotFull, den_outP, den_stT, den_cred_st]
  unfold debt
  iintro ⟨#HR, ⟨⟨Hat, #Hr⟩, ⟨%fs, %hfs, Hs⟩, ⟨%fd, Hd⟩, Ht⟩, HO⟩ Hk
  iapply (copy_rule A K c k (.st (slotOf j)) (roundOf j) (storeSem (slotOf j)) rfl rfl (by rw [duties_st]; exact Finset.mem_singleton_self _)
    (slotV (slotOf j)) (outPiece c j) fullShare fs fd (hpay fs fd hfs)) $$ [Hs Hd Ht]
  · isplitr; · iexact HR
    isplitr; · iexact Hr
    isplitl [Ht]; · iexact Ht
    isplitl [Hs]; · iapply (Entails.of_eq (hslot fs).symm); iexact Hs
    iapply (Entails.of_eq (hout fd).symm); iexact Hd
  iintro Hc
  iapply Hk
  isplitr [HO]
  · isplitr [Hc]
    · isplitl; · iexact Hat
      iexact Hr
    iexact Hc
  iexists W; iexact HO

/-! ## Sources -/

theorem arg_src (i : Msg) (off : Fin 2 → ℕ) (h) (hoff : off = ![512 * argBlk c i, 0]) (q : PosShare TreeShare) :
    ((argV off h).view.loc (c : Thread nD τ) ↦[(argV off h).view.set]{q} A c : sProp 𝕄) = argPts c (argChunk (argBlk c i)) q (A c) := by
  rw [argV_set off h _ hoff]; rfl

theorem out_src (i : Msg) (q : PosShare TreeShare) :
    ((dstV c i).view.loc (c : Thread nD τ) ↦[(dstV c i).view.set]{q} goal A c : sProp 𝕄) = outPts c (outChunk (dstBlk c i)) q (goal A c) := by
  rw [dstV_set]; rfl

/-- What the sender holds of a message's source is a share of what the message's view reads, and that is what is to
    arrive. -/
theorem source (i : Msg) : ∃ (q : PosShare TreeShare) (fs : Buf (Elt F) ((srcV c i).view.loc (c : Thread nD τ))),
    ((srcV c i).view.loc (c : Thread nD τ) ↦[(srcV c i).view.set]{q} fs : sProp 𝕄) = den (F := F) A c (.src i)
      ∧ ∀ x, (dstV c i).view.read (Elt F) (goal A (peer i c)) x = (srcV c i).view.read (Elt F) fs x := by
  cases i with
  | x k => exact ⟨fullShare.left, A c, arg_src A c (.x k) _ _ (off2_eq c k) _, fun x => goal_arg A c (.x k) rfl _ _ (off2_eq c k) x⟩
  | d k => exact ⟨fullShare.left, A c, arg_src A c (.d k) _ _ (off4_eq c k) _, fun x => goal_arg A c (.d k) rfl _ _ (off4_eq c k) x⟩
  | y1 k => exact ⟨fullShare.left, goal A c, out_src A c (.y1 k) _, fun x => goal_relay A c (.y1 k) (fun h => absurd (show (1 : Fin 3) = 0 from h) (by decide)) x⟩
  | z1 k => exact ⟨fullShare.right, goal A c, out_src A c (.z1 k) _, fun x => goal_relay A c (.z1 k) (fun h => absurd (show (2 : Fin 3) = 0 from h) (by decide)) x⟩
  | y2 k => exact ⟨fullShare, goal A c, out_src A c (.y2 k) _, fun x => goal_relay A c (.y2 k) (fun h => absurd (show (1 : Fin 3) = 0 from h) (by decide)) x⟩
  | z2 k => exact ⟨fullShare, goal A c, out_src A c (.z2 k) _, fun x => goal_relay A c (.z2 k) (fun h => absurd (show (2 : Fin 3) = 0 from h) (by decide)) x⟩

/-! ## Any step -/

/-- A step may be taken where what it waits at lies below all that is owed. -/
theorem below {s : Step} {l : List Ob} (hf : s.fine l = true) {q : Cell} (hq : s.waitsAt = some q) : ∀ o ∈ l, q.level < o.cell.level := by
  unfold Step.fine at hf
  rw [hq] at hf
  intro o ho
  exact of_decide_eq_true (List.all_eq_true.1 hf o ho)

/-- The step rule: from what the step takes, what it leaves. -/
theorem step_rule (s : Step) (l : List Ob) (hf : s.fine l = true) (W : Waits sig Unit) :
    iprop(records A K ∗ bigSepL s.need (den A c) ∗ owes (c : Thread nD τ) (oweAll c (s.pays ++ l)) W)
      ⊢ iprop((bigSepL s.give (den A c) ∗ debt c l -∗ wpc c (k ⟨⟩) Q) -∗ wpc c (s.prog c >>= k) Q) := by
  cases s with
  | signal p => exact signal_step A K c k p l W
  | await => exact wait_step A K c k .bar 0 (by decide) l (below hf rfl) (fun _ => rfl) _ (Entails.of_eq (round_bar A c)) W
  | send i =>
    obtain ⟨q, fs, hsrc, hval⟩ := source A c i
    exact send_step A K c k i (srcV c i) q fs hsrc hval l W
  | recv i => exact wait_step A K c k (.rcv i) 0 Nat.one_pos l (below hf rfl) (fun _ => rfl) _ (round_rcv A c i) W
  | sent i => exact wait_step A K c k (.snd i) 0 Nat.one_pos l (below hf rfl) (fun _ => rfl) _ (round_snd A c i) W
  | load j => exact load_step A K c k j l W
  | loaded j => exact wait_step A K c k (.ld (slotOf j)) (roundOf j) (roundOf_lt j) l (below hf rfl) (fun _ => rfl) _ (round_ld A c j) W
  | store j => exact store_step A K c k j l W
  | stored j => exact wait_step A K c k (.st (slotOf j)) (roundOf j) (roundOf_lt j) l (below hf rfl) (fun _ => rfl) _ (round_st A c j) W

/-! ## A list of steps -/

theorem take1_sound (x : Res) : ∀ (l l' : List Res), take1 x l = some l' → bigSepL l (den (F := F) A c) ⊢ iprop(den A c x ∗ bigSepL l' (den A c))
  | [], l', h => by simp [take1] at h
  | y :: l, l', h => by
    unfold take1 at h
    split at h
    · rename_i e
      obtain rfl : l = l' := by simpa using h
      rw [bigSepL_cons', e]
    · obtain ⟨l₁, h₁, rfl⟩ := Option.map_eq_some_iff.1 h
      rw [bigSepL_cons', bigSepL_cons']
      have := take1_sound x l l₁ h₁
      iintro ⟨Hy, Hl⟩
      ihave H := this $$ Hl
      icases H with ⟨Hx, Hl⟩
      isplitl [Hx]; · iexact Hx
      isplitl [Hy]; · iexact Hy
      iexact Hl

theorem takeAll_sound : ∀ (xs l l' : List Res), takeAll xs l = some l' → bigSepL l (den (F := F) A c) ⊢ iprop(bigSepL xs (den A c) ∗ bigSepL l' (den A c))
  | [], l, l', h => by
    obtain rfl : l = l' := by simpa [takeAll] using h
    rw [bigSepL_nil]
    iintro H
    isplitr; · iempintro
    iexact H
  | x :: xs, l, l', h => by
    unfold takeAll at h
    obtain ⟨l₁, h₁, h₂⟩ := Option.bind_eq_some_iff.1 h
    have hx := take1_sound A c x l l₁ h₁
    have hxs := takeAll_sound xs l₁ l' h₂
    rw [bigSepL_cons']
    iintro H
    ihave H := hx $$ H
    icases H with ⟨Hx, H⟩
    ihave H := hxs $$ H
    icases H with ⟨Hxs, Hl⟩
    isplitr [Hl]
    · isplitl [Hx]; · iexact Hx
      iexact Hxs
    iexact Hl

theorem payOff_eq : ∀ (os l l' : List Ob), payOff os l = some l' → l = os ++ l'
  | [], l, l', h => by simpa [payOff] using h
  | o :: os, [], l', h => by simp [payOff] at h
  | o :: os, o' :: l, l', h => by
    unfold payOff at h
    split at h
    · rename_i e
      rw [e, payOff_eq os l l' h, List.cons_append]
    · cases h

/-- The whole run: from what a device holds and owes, what the ledger leaves. -/
theorem run_rule : ∀ (ss : List Step) (l l' : List Res) (o o' : List Ob), exec ss l o = some (l', o') →
    iprop(records A K ∗ bigSepL l (den A c) ∗ debt c o) ⊢ iprop((bigSepL l' (den A c) ∗ debt c o' -∗ |={Set.univ}=> Q ⟨⟩) -∗ wpc c (run c ss) Q)
  | [], l, l', o, o', h => by
    obtain ⟨rfl, rfl⟩ : l = l' ∧ o = o' := by simpa [exec] using h
    iintro ⟨#HR, Hl, HO⟩ Hk
    iapply (show iprop(|={Set.univ}=> Q ⟨⟩) ⊢ wpc c (run c []) Q from Entails.of_eq (wp_ret _ _ _ _ _).symm)
    iapply Hk
    isplitl [Hl]; · iexact Hl
    iexact HO
  | s :: ss, l, l', o, o', h => by
    unfold exec at h
    obtain ⟨l₁, h₁, h⟩ := Option.bind_eq_some_iff.1 h
    obtain ⟨o₁, h₂, h⟩ := Option.bind_eq_some_iff.1 h
    split at h
    case isFalse => cases h
    rename_i hf
    have ih := run_rule ss (s.give ++ l₁) l' o₁ o' h
    have hl := takeAll_sound A c s.need l l₁ h₁
    rw [payOff_eq _ _ _ h₂]
    unfold debt
    iintro ⟨#HR, Hl, ⟨%W, HO⟩⟩ Hk
    ihave Hl := hl $$ Hl
    icases Hl with ⟨Hn, Hl⟩
    iapply (step_rule A K c (fun _ => run c ss) s o₁ hf W) $$ [Hn HO]
    · isplitr; · iexact HR
      isplitl [Hn]; · iexact Hn
      iexact HO
    iintro ⟨Hg, HO⟩
    iapply ih $$ [Hg Hl HO]
    · isplitr; · iexact HR
      isplitr [HO]
      · rw [bigSepL_append]
        isplitl [Hg]; · iexact Hg
        iexact Hl
      iexact HO
    iexact Hk

end Cert.KernelIdeal.Gather
-- ==== Proof.Memory.lean ====
/-
  The arrays of a device cut into what the messages and pieces use, and put together again.
-/
module

public import proofs.«01_k».proof.Proof.Step

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Facts₀ Facts

variable {F : FTy → Type} [FloatOps F] [Facts]

local notation "𝕄" => MT nD τ sig Unit (Elt F) ℕ UU ℕ

/-! ## Cutting and joining -/

section Cut

variable {ℓ : Loc nD τ sig} {q : PosShare TreeShare} {f : Buf (Elt F) ℓ} {T : Type} [DecidableEq T]

/-- A whole array holds each of a list of separate parts. -/
theorem cut (l : List T) (hl : l.Nodup) (S : T → Finset (Idx ℓ)) (hS : ∀ t ∈ l, ∀ t' ∈ l, t ≠ t' → Disjoint (S t) (S t')) :
    (ℓ ↦[Finset.univ]{q} f : sProp 𝕄) ⊢ bigSepL l fun t => ℓ ↦[S t]{q} f := by
  rw [← bigSep_eq_bigSepL l hl, ← pointsTo_biUnion l.toFinset S fun t ht t' ht' => hS t (List.mem_toFinset.1 ht) t' (List.mem_toFinset.1 ht')]
  refine (pointsTo_split_subset (Finset.subset_univ (l.toFinset.biUnion S))).1.trans ?_
  iintro ⟨H, -⟩
  iexact H

/-- Separate parts that are all of an array, at the same contents, are the array. -/
theorem join (l : List T) (hl : l.Nodup) (S : T → Finset (Idx ℓ)) (hS : ∀ t ∈ l, ∀ t' ∈ l, t ≠ t' → Disjoint (S t) (S t'))
    (hU : ∀ i, ∃ t ∈ l, i ∈ S t) :
    bigSepL l (fun t => ℓ ↦[S t]{q} f) ⊢ (ℓ ↦[Finset.univ]{q} f : sProp 𝕄) := by
  rw [← bigSep_eq_bigSepL l hl, ← pointsTo_biUnion l.toFinset S fun t ht t' ht' => hS t (List.mem_toFinset.1 ht) t' (List.mem_toFinset.1 ht')]
  refine Entails.of_eq (congrArg (fun U => (ℓ ↦[U]{q} f : sProp 𝕄)) (Finset.eq_univ_iff_forall.2 fun i => ?_))
  obtain ⟨t, ht, hi⟩ := hU i
  exact Finset.mem_biUnion.2 ⟨t, List.mem_toFinset.2 ht, hi⟩

end Cut

/-- Parts told apart by a number of their elements are separate. -/
theorem disjoint_of {I : Type} {S S' : Finset I} (κ : I → ℕ) {a b : ℕ} (ha : ∀ i ∈ S, κ i = a) (hb : ∀ i ∈ S', κ i = b) (h : a ≠ b) : Disjoint S S' :=
  Finset.disjoint_left.2 fun i hi hi' => h ((ha i hi).symm.trans (hb i hi'))

theorem upTo16_nodup : upTo16.Nodup := by decide
theorem upTo2_nodup : upTo2.Nodup := by decide
theorem mem_upTo16 : ∀ j : Fin 16, j ∈ upTo16 := by decide
theorem mem_upTo2 : ∀ b : Fin 2, b ∈ upTo2 := by decide
theorem msgs_nodup : msgs.Nodup := by decide +kernel

variable (A : Dev nD → S32768x1024.Idx → Elt F .f32) (c : Dev nD)

section Parts

variable {T : Type} [DecidableEq T] {q : PosShare TreeShare} (l : List T) (hl : l.Nodup)

include hl

theorem arg_parts {f : S32768x1024.Idx → Elt F .f32} (S : T → Finset S32768x1024.Idx) (hS : ∀ t ∈ l, ∀ t' ∈ l, t ≠ t' → Disjoint (S t) (S t')) :
    argPts c Finset.univ q f ⊢ bigSepL l fun t => argPts c (S t) q f := cut (ℓ := (c : Thread nD τ).loc main_arg0) l hl S hS
theorem arg_whole {f : S32768x1024.Idx → Elt F .f32} (S : T → Finset S32768x1024.Idx) (hS : ∀ t ∈ l, ∀ t' ∈ l, t ≠ t' → Disjoint (S t) (S t'))
    (hU : ∀ i, ∃ t ∈ l, i ∈ S t) : bigSepL l (fun t => argPts c (S t) q f) ⊢ argPts c Finset.univ q f :=
  join (ℓ := (c : Thread nD τ).loc main_arg0) l hl S hS hU
theorem out_parts {f : S65536x1024.Idx → Elt F .f32} (S : T → Finset S65536x1024.Idx) (hS : ∀ t ∈ l, ∀ t' ∈ l, t ≠ t' → Disjoint (S t) (S t')) :
    outPts c Finset.univ q f ⊢ bigSepL l fun t => outPts c (S t) q f := cut (ℓ := (c : Thread nD τ).loc main_v1) l hl S hS
theorem out_whole {f : S65536x1024.Idx → Elt F .f32} (S : T → Finset S65536x1024.Idx) (hS : ∀ t ∈ l, ∀ t' ∈ l, t ≠ t' → Disjoint (S t) (S t'))
    (hU : ∀ i, ∃ t ∈ l, i ∈ S t) : bigSepL l (fun t => outPts c (S t) q f) ⊢ outPts c Finset.univ q f :=
  join (ℓ := (c : Thread nD τ).loc main_v1) l hl S hS hU

end Parts

theorem argPts_halves (S : Finset S32768x1024.Idx) (f : S32768x1024.Idx → Elt F .f32) :
    argPts c S fullShare f ⊢ iprop(argPts c S fullShare.left f ∗ argPts c S fullShare.right f) :=
  (pointsTo_share (ℓ := (c : Thread nD τ).loc main_arg0) (PosShare.mem_left_op_right fullShare)).1
theorem outPts_halves (S : Finset S65536x1024.Idx) (f : S65536x1024.Idx → Elt F .f32) :
    outPts c S fullShare f ⊢ iprop(outPts c S fullShare.left f ∗ outPts c S fullShare.right f) :=
  (pointsTo_share (ℓ := (c : Thread nD τ).loc main_v1) (PosShare.mem_left_op_right fullShare)).1

/-- All of a holding is in particular its left share. -/
theorem outPts_left (S : Finset S65536x1024.Idx) (f : S65536x1024.Idx → Elt F .f32) : outPts c S fullShare f ⊢ outPts c S fullShare.left f := by
  refine (outPts_halves c S f).trans ?_
  iintro ⟨H, -⟩
  iexact H

/-! ## The argument -/

theorem argBlk_inj : ∀ (c : Dev nD), ∀ i ∈ along 0, ∀ i' ∈ along 0, i ≠ i' → argBlk c i ≠ argBlk c i' := by decide +kernel
theorem along_nodup (p : Fin 3) : (along p).Nodup := msgs_nodup.filter _
theorem mem_along_axis {p : Fin 3} {i : Msg} (h : i ∈ along p) : i.axis = p := of_decide_eq_true (List.mem_filter.1 h).2

theorem den_src_arg {i : Msg} (h : i.axis = 0) : den (F := F) A c (.src i) = argPts c (argChunk (argBlk c i)) fullShare.left (A c) := by
  cases i with
  | x k => rfl
  | d k => rfl
  | y1 k => exact absurd (show (1 : Fin 3) = 0 from h) (by decide)
  | z1 k => exact absurd (show (2 : Fin 3) = 0 from h) (by decide)
  | y2 k => exact absurd (show (1 : Fin 3) = 0 from h) (by decide)
  | z2 k => exact absurd (show (2 : Fin 3) = 0 from h) (by decide)

/-- The pieces of the argument. -/
theorem argRows_disj : ∀ j ∈ upTo16, ∀ j' ∈ upTo16, j ≠ j' → Disjoint (argRows j.val) (argRows j'.val) := fun j _ j' _ h =>
  disjoint_of (fun i : S32768x1024.Idx => (i 0).val / 2048) (fun _ hi => mem_argRows.1 hi) (fun _ hi => mem_argRows.1 hi) (fun e => h (Fin.ext e))

/-- The argument gives the sources of the messages that are read from it and, once more, its pieces. -/
theorem arg_cut : argPts c Finset.univ fullShare (A c)
    ⊢ iprop(bigSepL ((along 0).map .src) (den A c) ∗ bigSepL (upTo16.map .argP) (den A c)) := by
  have hl : argPts c Finset.univ fullShare.left (A c) ⊢ bigSepL ((along 0).map .src) (den A c) := by
    rw [bigSepL_map]
    refine (arg_parts c (along 0) (along_nodup 0) (fun i => argChunk (argBlk c i)) fun i hi i' hi' h => ?_).trans
      (bigSepL_mono fun i hi => Entails.of_eq (den_src_arg A c (mem_along_axis hi)).symm)
    exact disjoint_of (fun i : S32768x1024.Idx => (i 0).val / 512) (fun _ hi => mem_argChunk.1 hi) (fun _ hi => mem_argChunk.1 hi) (argBlk_inj c i hi i' hi' h)
  have hr : argPts c Finset.univ fullShare.right (A c) ⊢ bigSepL (upTo16.map .argP) (den A c) := by
    rw [bigSepL_map]
    exact arg_parts c upTo16 upTo16_nodup (fun j => argRows j.val) argRows_disj
  refine (argPts_halves c _ _).trans ?_
  iintro ⟨Hl, Hr⟩
  isplitl [Hl]
  · iapply hl; iexact Hl
  · iapply hr; iexact Hr

/-- The pieces together are the argument, at a share. -/
theorem arg_join : bigSepL (upTo16.map .argP) (den A c) ⊢ argPts c Finset.univ fullShare.right (A c) := by
  rw [bigSepL_map]
  refine arg_whole c upTo16 upTo16_nodup (fun j => argRows j.val) argRows_disj fun i => ?_
  have hi : (i 0).val < 32768 := (i 0).isLt
  exact ⟨⟨(i 0).val / 2048, by omega⟩, mem_upTo16 _, mem_argRows.2 rfl⟩

/-! ## The result -/

/-- The parts of the result: a message's, a piece's. -/
def outPart : Msg ⊕ Fin 16 → Finset S65536x1024.Idx
  | .inl i => outChunk (dstBlk (peer i c) i)
  | .inr j => outRows (16 * (c.val / 4) + j)

def outParts : List (Msg ⊕ Fin 16) := msgs.map .inl ++ upTo16.map .inr

theorem outParts_nodup : outParts.Nodup := by decide +kernel
theorem mem_outParts : ∀ t, t ∈ outParts
  | .inl i => List.mem_append_left _ (List.mem_map_of_mem (mem_msgs i))
  | .inr j => List.mem_append_right _ (List.mem_map_of_mem (mem_upTo16 j))

theorem bigSepL_outParts (Φ : Msg ⊕ Fin 16 → sProp 𝕄) : bigSepL outParts Φ = iprop(bigSepL msgs (fun i => Φ (.inl i)) ∗ bigSepL upTo16 (fun j => Φ (.inr j))) := by
  unfold outParts
  rw [bigSepL_append, bigSepL_map, bigSepL_map]

/-- Each element of the result is of the part that is to write it. -/
theorem mem_outPart {t : Msg ⊕ Fin 16} {i : S65536x1024.Idx} : i ∈ outPart c t ↔ owner c ((i 0).val / 512) = t := by
  have hi : (i 0).val < 65536 := (i 0).isLt
  have hc := dev_lt c
  cases t with
  | inl m =>
    constructor
    · intro h
      rw [mem_outChunk.1 h]; exact owner_dst c m
    · intro h
      exact mem_outChunk.2 (owner_inl c ⟨(i 0).val / 512, by omega⟩ m h).symm
  | inr j =>
    have hj := j.isLt
    refine mem_outRows.trans ?_
    unfold owner
    constructor
    · intro h
      rw [if_pos (by omega)]
      exact congrArg Sum.inr (Fin.ext (by show (i 0).val / 512 / 4 % 16 = j.val; omega))
    · intro h
      split at h
      · have := congrArg Fin.val (Sum.inr.inj h)
        have : (i 0).val / 512 / 4 % 16 = j.val := this
        omega
      · exfalso
        split at h
        · cases h
        split at h
        · split at h
          · cases h
          split at h <;> cases h
        split at h <;> cases h

theorem outPart_disj : ∀ t ∈ outParts, ∀ t' ∈ outParts, t ≠ t' → Disjoint (outPart c t) (outPart c t') := fun _ _ _ _ h =>
  Finset.disjoint_left.2 fun _ hi hi' => h (((mem_outPart c).1 hi).symm.trans ((mem_outPart c).1 hi'))

/-- The result gives each message's rows and each piece's. -/
theorem out_cut (f : S65536x1024.Idx → Elt F .f32) : outPts c Finset.univ fullShare f
    ⊢ iprop(bigSepL (msgs.map .raw) (den A c) ∗ bigSepL (upTo16.map .outP) (den A c)) := by
  refine (out_parts c outParts outParts_nodup (outPart c) (outPart_disj c)).trans ?_
  rw [bigSepL_outParts, bigSepL_map, bigSepL_map]
  have h1 : bigSepL msgs (fun i => outPts c (outPart c (.inl i)) fullShare f) ⊢ bigSepL msgs fun i => den A c (.raw i) :=
    bigSepL_mono fun i _ => by
      rw [den_raw]
      iintro H
      iexists f; iexact H
  have h2 : bigSepL upTo16 (fun j => outPts c (outPart c (.inr j)) fullShare f) ⊢ bigSepL upTo16 fun j => den A c (.outP j) :=
    bigSepL_mono fun j _ => by
      rw [den_outP]
      iintro H
      iexists f; iexact H
  iintro ⟨H1, H2⟩
  isplitl [H1]
  · iapply h1; iexact H1
  · iapply h2; iexact H2

/-- The chunk a message is sent on from is the one it arrived in. -/
theorem relay_rows_y : ∀ (c : Dev nD) (k : Fin 16), dstBlk c (.y1 k) = dstBlk (peer (.x k) c) (.x k) := by decide +kernel
theorem relay_rows_y2 : ∀ (c : Dev nD) (k : Fin 16) (h : 7 ≤ k.val ∧ k.val < 12), dstBlk c (.y2 ⟨k.val - 7, by omega⟩) = dstBlk (peer (.z1 k) c) (.z1 k) := by
  decide +kernel
theorem relay_rows_z2 : ∀ (c : Dev nD) (k : Fin 16) (h : 12 ≤ k.val), dstBlk c (.z2 ⟨k.val - 12, by omega⟩) = dstBlk (peer (.y1 k) c) (.y1 k) := by
  decide +kernel

/-- An arrived message's rows hold what they are to hold. -/
theorem kept_rows (i : Msg) : den A c (kept i) ⊢ outPts c (outPart c (.inl i)) fullShare.left (goal A c) := by
  have hk (i : Msg) : den A c (.keep i) ⊢ outPts c (outPart c (.inl i)) fullShare.left (goal A c) := by
    rw [den_keep]; exact outPts_left c _ _
  cases i with
  | x k =>
    refine Entails.of_eq ?_
    show outPts c (outChunk (dstBlk c (.y1 k))) fullShare.left (goal A c) = _
    rw [relay_rows_y]; rfl
  | d k => exact hk _
  | y1 k =>
    by_cases h : 12 ≤ k.val
    · rw [show kept (.y1 k) = .src (.z2 ⟨k.val - 12, by omega⟩) from dif_pos h]
      refine (Entails.of_eq ?_).trans (outPts_left c _ _)
      show outPts c (outChunk (dstBlk c (.z2 ⟨k.val - 12, by omega⟩))) fullShare (goal A c) = _
      rw [relay_rows_z2 c k h]; rfl
    · rw [show kept (.y1 k) = .keep (.y1 k) from dif_neg h]; exact hk _
  | z1 k =>
    by_cases h : 7 ≤ k.val ∧ k.val < 12
    · rw [show kept (.z1 k) = .src (.y2 ⟨k.val - 7, by omega⟩) from dif_pos h]
      refine (Entails.of_eq ?_).trans (outPts_left c _ _)
      show outPts c (outChunk (dstBlk c (.y2 ⟨k.val - 7, by omega⟩))) fullShare (goal A c) = _
      rw [relay_rows_y2 c k h]; rfl
    · rw [show kept (.z1 k) = .keep (.z1 k) from dif_neg h]; exact hk _
  | y2 k => exact hk _
  | z2 k => exact hk _

/-- All of the result is as it is to be. -/
theorem out_join : iprop(bigSepL (msgs.map kept) (den A c) ∗ bigSepL (upTo16.map .outD) (den A c))
    ⊢ outPts c Finset.univ fullShare.left (goal A c) := by
  have hj := out_whole (F := F) c (q := fullShare.left) (f := goal A c) outParts outParts_nodup (outPart c) (outPart_disj c) fun i => ⟨_, mem_outParts _, (mem_outPart c).2 rfl⟩
  rw [bigSepL_outParts] at hj
  rw [bigSepL_map, bigSepL_map]
  have h1 : bigSepL msgs (fun i => den A c (kept i)) ⊢ bigSepL msgs fun i => outPts c (outPart c (.inl i)) fullShare.left (goal A c) :=
    bigSepL_mono fun i _ => kept_rows A c i
  have h2 : bigSepL upTo16 (fun j => den A c (.outD j)) ⊢ bigSepL upTo16 fun j => outPts c (outPart c (.inr j)) fullShare.left (goal A c) :=
    bigSepL_mono fun j _ => by rw [den_outD]; exact outPts_left c _ _
  iintro ⟨H1, H2⟩
  iapply hj
  isplitl [H1]
  · iapply h1; iexact H1
  · iapply h2; iexact H2

/-! ## The on-chip memory -/

theorem slotSet_disj (b b' : Fin 2) (h : b ≠ b') : Disjoint (slotSet b.val) (slotSet b'.val) :=
  disjoint_of (fun i : S2x2048x1024.Idx => (i 0).val) (fun _ hi => mem_slotSet.1 hi) (fun _ hi => mem_slotSet.1 hi) (fun e => h (Fin.ext e))

theorem slots_cut (f : S2x2048x1024.Idx → Elt F .f32) : ((c : Thread nD τ).loc cc0_scratch0 ↦{fullShare} f : sProp 𝕄) ⊢ bigSepL (upTo2.map .slotFree) (den A c) := by
  rw [bigSepL_map]
  refine (cut (ℓ := (c : Thread nD τ).loc cc0_scratch0) upTo2 upTo2_nodup (fun b => slotSet b.val) fun b _ b' _ h => slotSet_disj b b' h).trans (bigSepL_mono fun b _ => ?_)
  rw [den_slotFree]
  show slotPts c b f ⊢ iprop(∃ f, slotPts c b f)
  iintro H
  iexists f; iexact H

theorem slots_join : bigSepL (upTo2.map .slotFree) (den A c) ⊢ (iprop(∃ f, (c : Thread nD τ).loc cc0_scratch0 ↦{fullShare} f) : sProp 𝕄) := by
  have hU : slotSet 0 ∪ slotSet 1 = Finset.univ := Finset.eq_univ_iff_forall.2 fun i => by
    have hi : (i 0).val < 2 := (i 0).isLt
    rw [Finset.mem_union, mem_slotSet, mem_slotSet]; omega
  have hj (f g : S2x2048x1024.Idx → Elt F .f32) : iprop(slotPts c 0 f ∗ slotPts c 1 g)
      ⊢ ((c : Thread nD τ).loc cc0_scratch0 ↦[slotSet 0 ∪ slotSet 1]{fullShare} ((slotSet 1).piecewise g f) : sProp 𝕄) :=
    pointsTo_join (slotSet_disj 0 1 (by decide))
  show bigSepL [Res.slotFree 0, Res.slotFree 1] (den A c) ⊢ _
  rw [bigSepL_cons', bigSepL_singleton, den_slotFree, den_slotFree]
  rw [hU] at hj
  iintro ⟨⟨%f, Hf⟩, %g, Hg⟩
  iexists (slotSet 1).piecewise g f
  iapply (hj f g)
  isplitl [Hf]; · iexact Hf
  iexact Hg

end Cert.KernelIdeal.Gather
-- ==== Proof.Ghost.lean ====
/-
  What every device is dealt at the launch: the invariants of all cells, its own positions, the rights to make the
  payments it makes, and the credit of what the others owe it.
-/
module

public import proofs.«01_k».proof.Proof.Memory

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F] [Facts]

local notation "𝕄" => MT nD τ sig Unit (Elt F) ℕ UU ℕ

variable (A : Dev nD → S32768x1024.Idx → Elt F .f32) (c : Dev nD)

/-! ## Semaphores -/

/-- The kernel's own semaphores: all but the barrier's. -/
abbrev osem : {k : Cell // k ≠ .bar} → SemLoc sig := fun k => loc k.1

theorem loc_scoped : ∀ k : Cell, k ≠ .bar → (loc k).isScoped .tc = true := by decide +kernel

theorem ownSemFacts : Pipeline.OwnSemFacts cfg0.spec osem :=
  ⟨fun k => loc_scoped k.1 k.2, fun _ _ h => Subtype.ext (loc_injective h), fun _ w => w.elim0⟩

theorem ownSems0_eq : (Pipeline.ownSems0 (Ix := Unit) (Name := ℕ) (U := UU) (Lvl := ℕ) (Val := Elt F) (τ := τ) osem c : sProp 𝕄)
    = bigSep (Finset.univ.erase Cell.bar) fun k => semVal (kcell c k) 0 := by
  rw [← Finset.filter_ne']
  exact bigSep_subtype (fun k : Cell => k ≠ .bar) fun k => (semVal (kcell c k) 0 : sProp 𝕄)
theorem unscopedSems0_eq : (unscopedSems0 c : sProp 𝕄) = semVal (kcell c .bar) 0 := by
  unfold unscopedSems0; rw [bigSep_eq_bigSepL_of_eq [SemLoc.reg barSem] (by decide +kernel) (by decide)]; rfl

theorem sems_eq : (bigSep Finset.univ fun k : Cell => (semVal (kcell c k) 0 : sProp 𝕄))
    = iprop(unscopedSems0 c ∗ Pipeline.ownSems0 (Ix := Unit) (Name := ℕ) (U := UU) (Lvl := ℕ) (Val := Elt F) (τ := τ) osem c) := by
  rw [ownSems0_eq, unscopedSems0_eq, bigSep_univ_at _ Cell.bar]

/-! ## Cells and rights -/

theorem kcell_injective : Function.Injective (fun x : Dev nD × Cell => kcell x.1 x.2) := fun _ _ h => Prod.ext (kcell_inj h).1 (kcell_inj h).2

def allCells : Finset (GSem nD τ sig) := Finset.univ.map ⟨fun x : Dev nD × Cell => kcell x.1 x.2, kcell_injective⟩

/-- The payments a device makes: a signal to each neighbour; for each message one at its own cell and one at the
    receiver's; for each piece one for its load and one for its store. -/
abbrev Right : Type := Fin 3 ⊕ Msg ⊕ Msg ⊕ Fin 16 ⊕ Fin 16

def rightCell : Right → Cell
  | .inl _ => .bar
  | .inr (.inl i) => .snd i
  | .inr (.inr (.inl i)) => .rcv i
  | .inr (.inr (.inr (.inl j))) => .ld (slotOf j)
  | .inr (.inr (.inr (.inr j))) => .st (slotOf j)
def rightRound : Right → ℕ
  | .inl _ | .inr (.inl _) | .inr (.inr (.inl _)) => 0
  | .inr (.inr (.inr (.inl j))) | .inr (.inr (.inr (.inr j))) => roundOf j
def rightNo : Right → Fin 3
  | .inl p => p
  | _ => 0
/-- The device at whose cell it makes the payment. -/
def rightDev (c : Dev nD) : Right → Dev nD
  | .inl p => nbr p c
  | .inr (.inr (.inl i)) => peer i c
  | _ => c

theorem right_inj : ∀ t t' : Right, rightCell t = rightCell t' → rightRound t = rightRound t' → rightNo t = rightNo t' → t = t' := by
  have piece : ∀ j j' : Fin 16, slotOf j = slotOf j' → roundOf j = roundOf j' → j = j' := by decide
  rintro (p | i | i | j | j) (p' | i' | i' | j' | j') h hr hp <;> first | (simp only [rightCell] at h; cases h; done) | skip
  · exact congrArg _ hp
  · simp only [rightCell, Cell.snd.injEq] at h; rw [h]
  · simp only [rightCell, Cell.rcv.injEq] at h; rw [h]
  · simp only [rightCell, Cell.ld.injEq] at h; rw [piece j j' h hr]
  · simp only [rightCell, Cell.st.injEq] at h; rw [piece j j' h hr]

def rightOf (x : Dev nD × Right) : GSem nD τ sig × ℕ × Fin 3 := (kcell x.1 (rightCell x.2), rightRound x.2, rightNo x.2)
theorem rightOf_injective : Function.Injective rightOf := fun x x' h => by
  have h1 := kcell_inj (congrArg Prod.fst h)
  have h2 := congrArg Prod.snd h
  exact Prod.ext h1.1 (right_inj _ _ h1.2 (congrArg Prod.fst h2) (congrArg Prod.snd h2))
def allRights : Finset (GSem nD τ sig × ℕ × Fin 3) := Finset.univ.map ⟨rightOf, rightOf_injective⟩

theorem rightDev_rightDev (c : Dev nD) : ∀ t : Right, rightDev (rightDev c t) t = c
  | .inl p => nbr_nbr p c
  | .inr (.inl _) => rfl
  | .inr (.inr (.inl i)) => peer_peer i c
  | .inr (.inr (.inr (.inl _))) => rfl
  | .inr (.inr (.inr (.inr _))) => rfl

/-- A right goes from the device whose cell it is of to the device that is to use it. -/
def deal : Dev nD × Right ≃ Dev nD × Right :=
  Function.Involutive.toPerm (fun x => (rightDev x.1 x.2, x.2)) fun x => Prod.ext (rightDev_rightDev x.1 x.2) rfl

def u₀ : UU := (initOf (Pipeline.cells cfgs Gen.cellOf_inj) (Pipeline.launchToks cfgs Gen.cellOf_inj), initOf allCells allRights)

/-- The rights of a device's payments. -/
def rights : sProp 𝕄 := bigSep Finset.univ fun t : Right => dutyTok ER (kcell (rightDev c t) (rightCell t)) (rightRound t) (rightNo t)
def positions : sProp 𝕄 := bigSep Finset.univ fun k : Cell => atPos ER (kcell c k) 0 ∅ 0
def marks : sProp 𝕄 := bigSep Finset.univ fun k : Cell => reached ER (kcell c k) 0

/-- What each device is dealt, -/
def G : sProp 𝕄 :=
  iprop((bigSep Finset.univ fun k : Cell => roundState ER (sched A) (kcell c k) 0) ∗ marks c ∗ positions c ∗ rights c)

/-- the invariants and marks of all cells, -/
def invsAll (K : Dev nD × Cell → ℕ) : sProp 𝕄 := bigSep Finset.univ fun x : Dev nD × Cell => cellInv ER (sched A) (K x) (kcell x.1 x.2)
def marksAll : sProp 𝕄 := bigSep Finset.univ fun x : Dev nD × Cell => reached ER (kcell x.1 x.2) 0

instance invsAll_persistent (K : Dev nD × Cell → ℕ) : BI.Persistent (invsAll (F := F) A K) := by unfold invsAll; infer_instance
instance marksAll_persistent : BI.Persistent (marksAll (F := F)) := by unfold marksAll; infer_instance

/-- and what it holds once the cells are allocated. -/
def G' : sProp 𝕄 := iprop(∃ K, (invsAll A K ∗ marksAll) ∗ positions c ∗ rights c)

theorem fund_all : BI.own (ER (initOf allCells allRights)) ⊢ (|==> bigSep Finset.univ (G A) : sProp 𝕄) := by
  have hX (Φ : GSem nD τ sig → sProp 𝕄) : bigSep allCells Φ = bigSep Finset.univ fun c : Dev nD => bigSep Finset.univ fun k : Cell => Φ (kcell c k) := by
    unfold allCells; rw [bigSep_map, bigSep_univ_prod]; rfl
  have hT : bigSep allRights (fun x => (dutyTok ER x.1 x.2.1 x.2.2 : sProp 𝕄)) = bigSep Finset.univ fun c : Dev nD => rights c := by
    unfold allRights; rw [bigSep_map, bigSep_univ_equiv deal, bigSep_univ_prod]; rfl
  iintro HX
  imod (Rounds.fund ER (sched A) allCells allRights) $$ HX with ⟨Hst, Hr, Hat, Htok⟩
  imodintro
  ihave Hst' := (Entails.of_eq (hX fun g => roundState ER (sched A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G marks positions; simp only [bigSep_sep']
  isplitl [Hst']; · iexact Hst'
  isplitl [Hr']; · iexact Hr'
  isplitl [Hat']; · iexact Hat'
  iexact Htok'

theorem core_alloc :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k => iprop(∃ κ : ℕ, cellInv ER (sched A) κ (kcell c k))) ∗ marks c ∗ positions c ∗ rights c) := by
  unfold G
  iintro ⟨Hos, Hus, Hst, Hrest⟩
  ihave Hv := (Entails.of_eq (sems_eq (F := F) c).symm) $$ [Hos Hus]
  · isplitl [Hus] <;> iassumption
  imod (show iprop((bigSep Finset.univ fun k : Cell => semVal (kcell c k) 0) ∗ bigSep Finset.univ fun k : Cell => roundState ER (sched A) (kcell c k) 0)
      ⊢ (|={Set.univ}=> bigSep Finset.univ fun k => iprop(∃ κ : ℕ, cellInv ER (sched A) κ (kcell c k)) : sProp 𝕄) from by
        rw [← bigSep_sep']
        exact (bigSep_mono fun k _ => (Rounds.body_intro ER (sched A) (kcell c k)).trans inv_alloc).trans (bigSep_fupd _ _)) $$ [Hv Hst] with Hinv
  · isplitl [Hv] <;> iassumption
  imodintro
  isplitl [Hinv]; · iexact Hinv
  iexact Hrest

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched A) κ (kcell c k))) ∗ marks c ∗ positions c ∗ rights c) : sProp 𝕄)
      ⊢ bigSep Finset.univ (G' A) := by
  have hM : (bigSep Finset.univ fun c : Dev nD => (marks c : sProp 𝕄)) = marksAll := by
    unfold marks marksAll
    exact (bigSep_univ_prod (fun x : Dev nD × Cell => (reached ER (kcell x.1 x.2) 0 : sProp 𝕄))).symm
  rw [bigSep_sep', bigSep_sep', ← bigSep_univ_prod (fun x : Dev nD × Cell => iprop(∃ κ : ℕ, cellInv ER (sched A) κ (kcell x.1 x.2))), hM]
  iintro ⟨HI, #HM, Hrest⟩
  ihave HK := (BI.bigSep_exists_pi Finset.univ (fun (x : Dev nD × Cell) (κ : ℕ) => (cellInv ER (sched A) κ (kcell x.1 x.2) : sProp 𝕄))) $$ HI
  icases HK with ⟨%K, #HI⟩
  iapply (with_persistent (R := iprop(invsAll A K ∗ marksAll)) (Φ := fun c => iprop(positions c ∗ rights c)) fun c _ => show _ ⊢ G' A c from by
    unfold G'
    iintro ⟨HR, Hl⟩
    iexists K
    isplitl [HR]; · iexact HR
    iexact Hl)
  isplitr
  · isplitr
    · unfold invsAll; iexact HI
    · iexact HM
  · iexact Hrest

/-- The allocation of all devices' cells at once. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## By name -/

theorem cells_nodup : cells.Nodup := by decide +kernel
theorem upTo3_nodup : upTo3.Nodup := by decide

theorem positions_named : iprop(marksAll ∗ positions c) ⊢ bigSepL (cells.map (.at · 0)) (den A c) := by
  have hm : marksAll (F := F) ⊢ bigSep Finset.univ fun k : Cell => reached ER (kcell c k) 0 := by
    unfold marksAll
    rw [bigSep_univ_prod]
    exact bigSep_elim (Φ := fun c : Dev nD => bigSep Finset.univ fun k : Cell => (reached ER (kcell c k) 0 : sProp 𝕄)) (Finset.mem_univ c)
  rw [bigSepL_map, ← bigSep_univ_eq_bigSepL cells rfl cells_nodup]
  unfold positions
  iintro ⟨HM, HP⟩
  ihave HM := hm $$ HM
  iapply (Entails.of_eq (bigSep_sep' Finset.univ (fun k : Cell => (atPos ER (kcell c k) 0 ∅ 0 : sProp 𝕄)) fun k => reached ER (kcell c k) 0).symm)
  isplitl [HP]; · iexact HP
  iexact HM

theorem rights_named : rights c ⊢ iprop(bigSepL (upTo3.map .barT) (den A c) ∗ bigSepL (msgs.map .tok) (den A c)
    ∗ bigSepL (upTo16.map .ldT) (den A c) ∗ bigSepL (upTo16.map .stT) (den A c)) := by
  have ht : bigSep Finset.univ (fun i : Msg => den (F := F) A c (.tok i))
      = iprop((bigSep Finset.univ fun i : Msg => dutyTok ER (kcell c (.snd i)) 0 0) ∗ bigSep Finset.univ fun i : Msg => dutyTok ER (kcell (peer i c) (.rcv i)) 0 0) := by
    rw [← bigSep_sep']; rfl
  rw [bigSepL_map, bigSepL_map, bigSepL_map, bigSepL_map, ← bigSep_univ_eq_bigSepL upTo3 (by decide) upTo3_nodup,
    ← bigSep_univ_eq_bigSepL msgs rfl msgs_nodup, ← bigSep_univ_eq_bigSepL upTo16 (by decide) upTo16_nodup, ← bigSep_univ_eq_bigSepL upTo16 (by decide) upTo16_nodup, ht]
  have hr : (rights c : sProp 𝕄) = iprop((bigSep Finset.univ fun p : Fin 3 => dutyTok ER (kcell (nbr p c) .bar) 0 p)
      ∗ (bigSep Finset.univ fun i : Msg => dutyTok ER (kcell c (.snd i)) 0 0) ∗ (bigSep Finset.univ fun i : Msg => dutyTok ER (kcell (peer i c) (.rcv i)) 0 0)
      ∗ (bigSep Finset.univ fun j : Fin 16 => dutyTok ER (kcell c (.ld (slotOf j))) (roundOf j) 0)
      ∗ bigSep Finset.univ fun j : Fin 16 => dutyTok ER (kcell c (.st (slotOf j))) (roundOf j) 0) := by
    unfold rights
    rw [bigSep_univ_sum, bigSep_univ_sum, bigSep_univ_sum, bigSep_univ_sum]; rfl
  rw [hr]
  iintro ⟨H1, H2, H3, H4, H5⟩
  isplitl [H1]; · iexact H1
  isplitl [H2 H3]
  · isplitl [H2]; · iexact H2
    iexact H3
  isplitl [H4]; · iexact H4
  iexact H5

/-! ## Credit -/

/-- What all devices together owe a cell: the amount of each thing owed to a cell of its kind. -/
theorem owed_sum (k : Cell) (l : List Ob) : ∑ d : Dev nD, oweAll d l (kcell c k) () = l.countP (fun o => o.cell = k) * amt k := by
  have tgt_tgt (o : Ob) (d : Dev nD) : o.tgt (o.tgt d) = d := by
    cases o with
    | bar p => exact nbr_nbr p d
    | msg i => exact peer_peer i d
  have one (o : Ob) : ∑ d : Dev nD, owe d o (kcell c k) () = if o.cell = k then amt k else 0 := by
    by_cases hk : o.cell = k
    · have (d : Dev nD) : owe d o (kcell c k) () = if d = o.tgt c then amt k else 0 := by
        unfold owe
        rw [tallyAt_apply, hk]
        by_cases hd : d = o.tgt c
        · rw [if_pos hd, if_pos ⟨by rw [hd, tgt_tgt], rfl⟩]
        · rw [if_neg hd, if_neg fun h => hd (by rw [(kcell_inj h.1).1, tgt_tgt])]
      rw [Finset.sum_congr rfl fun d _ => this d, Finset.sum_ite_eq' Finset.univ (o.tgt c) fun _ => amt k, if_pos (Finset.mem_univ _), if_pos hk]
    · rw [if_neg hk]
      refine Finset.sum_eq_zero fun d _ => ?_
      unfold owe
      rw [tallyAt_apply, if_neg fun h => hk (kcell_inj h.1).2.symm]
  induction l with
  | nil => rw [List.countP_nil, Nat.zero_mul]; exact Finset.sum_eq_zero fun _ _ => rfl
  | cons o l ih =>
    rw [Finset.sum_congr rfl fun d _ => show oweAll d (o :: l) (kcell c k) () = oweAll d l (kcell c k) () + owe d o (kcell c k) () from by
      rw [oweAll_cons, Pi.add_apply, Finsupp.add_apply], Finset.sum_add_distrib, ih, one, List.countP_cons]
    by_cases hk : o.cell = k
    · rw [if_pos hk, if_pos (decide_eq_true hk), Nat.add_mul, Nat.one_mul]
    · rw [if_neg hk, if_neg (by simpa using hk), Nat.add_zero, Nat.add_zero]

theorem owed_bar : owed.countP (fun o => o.cell = .bar) = 3 := by decide +kernel
theorem owed_rcv : ∀ i : Msg, owed.countP (fun o => o.cell = .rcv i) = 1 := by decide +kernel

/-- The cells at which a device waits for others. -/
def waited : List Cell := .bar :: msgs.map .rcv

theorem waited_nodup : (waited.map loc).Nodup := List.Nodup.map loc_injective (by decide +kernel)

theorem launch_cell (k : Cell) (hk : k ∈ waited) :
    tallyOn (kcell c k) (launchCredit (Pipeline.owing fun d => oweAll d owed) 0 (kcell c k)) = (tallyAt (kcell c k) () (roundAmt k) : CellTallies nD τ sig Unit) := by
  unfold tallyAt
  refine congrArg _ (Finsupp.ext fun u => ?_)
  cases u
  rw [Pipeline.launchCredit_owing, Finsupp.single_eq_same, owed_sum]
  rcases List.mem_cons.1 hk with rfl | h
  · rw [owed_bar]; rfl
  · obtain ⟨i, -, rfl⟩ := List.mem_map.1 h
    rw [owed_rcv, Nat.one_mul]; rfl

theorem credit_named : (Pipeline.launchCred (fun d => oweAll d owed) c : sProp 𝕄) ⊢ bigSepL (.cred .bar :: msgs.map fun i => .cred (.rcv i)) (den A c) := by
  have hl : (Res.cred .bar :: msgs.map fun i => .cred (.rcv i)) = waited.map .cred := by
    unfold waited; rw [List.map_cons, List.map_map]; rfl
  unfold Pipeline.launchCred
  rw [hl, bigSepL_map]
  refine (bigSep_subset (Finset.subset_univ (waited.map loc).toFinset)).trans ?_
  rw [bigSep_eq_bigSepL _ waited_nodup, bigSepL_map]
  exact bigSepL_mono fun k hk => Entails.of_eq (congrArg cred (launch_cell c k hk))

end Cert.KernelIdeal.Gather
-- ==== Proof.LedgerRun.lean ====
/-
  The kernel's list of steps, run through the ledger.
-/
module

public import proofs.«01_k».proof.Proof.Ledger

@[expose] public section

namespace Cert.KernelIdeal.Gather

set_option maxRecDepth 100000 in
/-- The kernel's steps run from the start, pay all that is owed, and leave what is to be held. -/
theorem exec_steps : ∃ l rest, exec steps initial owed = some (l, []) ∧ takeAll final l = some rest := by
  have h : ((exec steps initial owed).bind fun r => if r.2 = [] then takeAll final r.1 else none).isSome = true := by decide +kernel
  obtain ⟨rest, h⟩ := Option.isSome_iff_exists.mp h
  obtain ⟨⟨l, o⟩, h1, h2⟩ := Option.bind_eq_some_iff.mp h
  by_cases ho : o = []
  · subst ho
    exact ⟨l, rest, h1, by rwa [if_pos rfl] at h2⟩
  · rw [if_neg ho] at h2
    cases h2

end Cert.KernelIdeal.Gather
-- ==== Proof.Launch.lean ====
/-
  The run of all devices together: the region's proof data, what each device's body is proved to do, and the launch.
-/
module

public import proofs.«01_k».proof.Proof.Ghost
public import proofs.«01_k».proof.Proof.LedgerRun
public import proofs.«01_k».proof.Proof.Body
public import Idealize.ShloMosaic.Lib.Pipeline.CollectiveSegs

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Facts₀ Facts

variable {F : FTy → Type} [FloatOps F] [Facts]

local notation "𝕄" => MT nD τ sig Unit (Elt F) ℕ UU ℕ

variable (A : Dev nD → S32768x1024.Idx → Elt F .f32) (c : Dev nD)

/-! ## The end of a device's run -/

/-- A cell past its last round reads zero. -/
theorem close_cell (K : Dev nD × Cell → ℕ) (k : Cell) :
    iprop(records A K ∗ den A c (.at k (lastRound k))) ⊢ (|={Set.univ}=> semVal (kcell c k) 0 : sProp 𝕄) := by
  rw [den_at]
  iintro ⟨#HR, Hat, -⟩
  iapply (Rounds.cell_close ER (sched A) (κ := K (c, k)) (Set.mem_univ _) (fun h => h) (duties_done A c k))
  isplitr
  · iapply (inv_of A K c k); iexact HR
  · iexact Hat

theorem close_cells (K : Dev nD × Cell → ℕ) (ks : List Cell) :
    iprop(records A K ∗ bigSepL (ks.map fun k => .at k (lastRound k)) (den A c)) ⊢ (|={Set.univ}=> bigSepL ks (fun k => semVal (kcell c k) 0) : sProp 𝕄) := by
  induction ks with
  | nil =>
    rw [List.map_nil, bigSepL_nil, bigSepL_nil]
    iintro ⟨-, H⟩
    imodintro; iexact H
  | cons k ks ih =>
    rw [List.map_cons, bigSepL_cons', bigSepL_cons']
    iintro ⟨#HR, Hk, Hks⟩
    imod (close_cell A c K k) $$ [Hk] with Hk
    · isplitr; · iexact HR
      iexact Hk
    imod ih $$ [Hks] with Hks
    · isplitr; · iexact HR
      iexact Hks
    imodintro
    isplitl [Hk]; · iexact Hk
    iexact Hks

/-- The device's on-chip memory, whatever it holds. -/
def onChip : sProp 𝕄 := iprop(∃ f, (c : Thread nD τ).loc cc0_scratch0 ↦{fullShare} f)

/-- What a device starts from, -/
def before : sProp 𝕄 := iprop(∃ K, records A K ∗ bigSepL initial (den A c))
/-- and what it ends with: its semaphores at zero, its argument as it was, its result, and the on-chip memory. -/
def after : sProp 𝕄 := iprop((bigSep Finset.univ fun k : Cell => semVal (kcell c k) 0)
  ∗ argPts c Finset.univ fullShare.right (A c) ∗ outPts c Finset.univ fullShare.left (goal A c) ∗ onChip c)

theorem final_after (K : Dev nD × Cell → ℕ) : iprop(records A K ∗ bigSepL final (den A c)) ⊢ (|={Set.univ}=> after A c : sProp 𝕄) := by
  unfold final after
  rw [bigSep_univ_eq_bigSepL cells rfl cells_nodup, bigSepL_append, bigSepL_append, bigSepL_append, bigSepL_append]
  iintro ⟨#HR, Hat, Hkept, Harg, Hout, Hslot⟩
  imod (close_cells A c K cells) $$ [Hat] with Hz
  · isplitr; · iexact HR
    iexact Hat
  imodintro
  isplitl [Hz]; · iexact Hz
  isplitl [Harg]; · iapply (arg_join A c); iexact Harg
  isplitl [Hkept Hout]
  · iapply (out_join A c)
    isplitl [Hkept]; · iexact Hkept
    iexact Hout
  · unfold onChip; iapply (slots_join A c); iexact Hslot

/-- A device's run, from start to end. -/
theorem device_run (Q : PUnit.{1} → sProp (MT nD τ sig Unit (Elt F) ℕ UU ℕ)) :
    iprop(before A c ∗ debt c owed ∗ (iprop(after A c ∗ debt c []) -∗ Q ⟨⟩)) ⊢ wpc c (run c steps) Q := by
  obtain ⟨l, rest, he, ht⟩ := exec_steps
  unfold before
  iintro ⟨⟨%K, #HR, Hl⟩, Ho, HQ⟩
  iapply (run_rule A K c (Q := Q) steps initial l owed [] he) $$ [Hl Ho]
  · isplitr; · iexact HR
    isplitl [Hl]; · iexact Hl
    iexact Ho
  iintro ⟨Hl, Ho⟩
  ihave Hf := (takeAll_sound A c final l rest ht) $$ Hl
  icases Hf with ⟨Hf, -⟩
  imod (final_after A c K) $$ [Hf] with Ha
  · isplitr; · iexact HR
    iexact Hf
  imodintro
  iapply HQ
  isplitl [Ha]; · iexact Ha
  iexact Ho

/-! ## The region's proof data -/

/-- The body before and after its one point. The region has no windows. -/
def dats (_ : Fin 1) (c : Dev nD) : Dat τ (Elt F) Unit ℕ UU ℕ cfg0 c where
  A w := w.elim0
  after w := w.elim0
  Φ t := match t with
    | ⟨0, _⟩ => before A c
    | ⟨_ + 1, _⟩ => after A c
  q _ := fullShare
  owed t := match t with
    | ⟨0, _⟩ => oweAll c owed
    | ⟨_ + 1, _⟩ => 0

theorem no_windows (Ψ : Fin cfg0.W → sProp 𝕄) : (iprop(emp) : sProp 𝕄) ⊢ bigSep Finset.univ Ψ :=
  Entails.of_eq (by rw [show (Finset.univ : Finset (Fin cfg0.W)) = ∅ from rfl, bigSep_empty]; rfl)

theorem debt_start : ((dats A 0 c).owesAt () Gen.t0_0.castSucc : sProp 𝕄) ⊢ debt c owed := by
  unfold Dat.owesAt Pipeline.owesWithin debt
  iintro ⟨%W, -, Ho⟩
  iexists W; iexact Ho
theorem debt_end : debt c [] ⊢ ((dats A 0 c).owesAt () Gen.t0_0.succ : sProp 𝕄) := by
  unfold Dat.owesAt Pipeline.owesWithin debt
  iintro ⟨%W, Ho⟩
  iexists W
  isplitr; · ipureintro; exact fun _ _ => Or.inl trivial
  iexact Ho

set_option maxRecDepth 65536 in
theorem body_obligation : BodyObligation (dats A 0 c) (defs₀ (F := F)) 𝒱₀ () Set.univ := fun t => by
  rw [show t = Gen.t0_0 from Gen.fin_N0 t]
  refine (show _ ⊢ wp frame (wpE (defs₀ (F := F)) 𝒱₀ (c : Thread nD τ) none) Set.univ (Gen.bodyAt0 (F := F) Gen.t0_0) _ from ?_)
  rw [body_eq, wp_deviceId]
  have hs : (dats A 0 c).Φ Gen.t0_0.castSucc ⊢ before A c := Entails.of_eq rfl
  have hf : after A c ⊢ (dats A 0 c).Φ Gen.t0_0.succ := Entails.of_eq rfl
  iintro ⟨HΦ, Ho, -⟩
  iapply (device_run A c)
  isplitl [HΦ]; · iapply hs; iexact HΦ
  isplitl [Ho]; · iapply (debt_start A c); iexact Ho
  iintro ⟨Ha, Ho⟩
  isplitl [Ha]; · iapply hf; iexact Ha
  isplitl [Ho]; · iapply (debt_end A c); iexact Ho
  iapply (no_windows _); iempintro

/-! ## The launch -/

variable (m : (ℓ : Loc nD τ sig) → Buf (Elt F) ℓ) (ρ : Dev nD → PrngReg)

/-- The arguments as the memory holds them. -/
def args (d : Dev nD) : S32768x1024.Idx → Elt F .f32 := m ((d : Thread nD τ).loc main_arg0)

/-- What a device has before its on-chip memory is given to it. -/
def entering : sProp 𝕄 := iprop(bigSepL (upTo2.map .slotFree) (den A c) -∗ before A c)
/-- What a device keeps for the end. -/
def ending : sProp 𝕄 := iprop(unscopedSems0 c ∗ argPts c Finset.univ fullShare.right (A c) ∗ outPts c Finset.univ fullShare.left (goal A c))

theorem enter :
    iprop(Pipeline.unscopedRestP Pipeline.Prefetch.none cfg0.spec c (fun b => m ((c : Thread nD τ).loc b)) ∗ levAts L lv
        ∗ Pipeline.launchCred (fun d => oweAll d owed) c ∗ prngReg c (ρ c) ∗ G' (args m) c)
      ⊢ (|={Set.univ}=> iprop(entering (args m) c ∗ emp) : sProp 𝕄) := by
  rw [Pipeline.unscopedRestP_none, Gen.unscopedRest0_eq]
  have ha : ((c : Thread nD τ).loc main_arg0 ↦{fullShare} m ((c : Thread nD τ).loc main_arg0) : sProp 𝕄) ⊢ argPts c Finset.univ fullShare (args m c) := Entails.of_eq rfl
  have ho : ((c : Thread nD τ).loc main_v1 ↦{fullShare} m ((c : Thread nD τ).loc main_v1) : sProp 𝕄)
      ⊢ outPts c Finset.univ fullShare (m ((c : Thread nD τ).loc main_v1)) := Entails.of_eq rfl
  unfold G' entering before records
  iintro ⟨⟨Harg, Hout⟩, Hlev, Hcr, -, ⟨%K, ⟨#HI, #HM⟩, Hpos, Hri⟩⟩
  ihave Harg := (ha.trans (arg_cut (args m) c)) $$ Harg
  ihave Hout := (ho.trans (out_cut (args m) c _)) $$ Hout
  ihave Hcr := (credit_named (args m) c) $$ Hcr
  ihave Hpos := (positions_named (args m) c) $$ [Hpos]
  · isplitr; · iexact HM
    iexact Hpos
  ihave Hri := (rights_named (args m) c) $$ Hri
  icases Harg with ⟨Hsrc, HargP⟩
  icases Hout with ⟨Hraw, HoutP⟩
  icases Hri with ⟨Hbar, Htok, Hld, Hst⟩
  imodintro
  isplitl
  · iintro Hslot
    iexists K
    isplitl [Hlev]
    · isplitr
      · unfold invsAll; iexact HI
      isplitr
      · unfold marksAll; iexact HM
      iexact Hlev
    unfold initial
    rw [bigSepL_append, bigSepL_append, bigSepL_append, bigSepL_append, bigSepL_append, bigSepL_append, bigSepL_append, bigSepL_append,
      bigSepL_append, bigSepL_append]
    isplitl [Hpos]; · iexact Hpos
    isplitl [Hcr]; · iexact Hcr
    isplitl [Htok]; · iexact Htok
    isplitl [Hraw]; · iexact Hraw
    isplitl [Hbar]; · iexact Hbar
    isplitl [Hsrc]; · iexact Hsrc
    isplitl [HargP]; · iexact HargP
    isplitl [HoutP]; · iexact HoutP
    isplitl [Hslot]; · iexact Hslot
    isplitl [Hld]; · iexact Hld
    iexact Hst
  · iempintro

theorem start : iprop(entering A c ∗ Pipeline.prefHeld Pipeline.Prefetch.none c (fun _ => fullShare.right) (fun k => k.elim0) ∗ Pipeline.scopedRest cfg0.spec c)
    ⊢ (dats A 0 c).Φ 0 := by
  rw [show (dats A 0 c).Φ 0 = before A c from rfl, Gen.scopedRest0_eq]
  unfold entering
  iintro ⟨H, -, ⟨%f, Hf⟩⟩
  iapply H
  iapply (slots_cut A c f); iexact Hf

theorem leave : (dats A 0 c).Φ (Fin.last cfg0.N) ⊢ iprop(ending A c ∗ Pipeline.ownSems0 osem c ∗ Pipeline.scopedRest cfg0.spec c) := by
  rw [show (dats A 0 c).Φ (Fin.last cfg0.N) = after A c from rfl, Gen.scopedRest0_eq]
  unfold after ending
  rw [sems_eq]
  iintro ⟨⟨Hu, Ho⟩, Harg, Hout, Hm⟩
  isplitl [Hu Harg Hout]
  · isplitl [Hu]; · iexact Hu
    isplitl [Harg]; · iexact Harg
    iexact Hout
  isplitl [Ho]; · iexact Ho
  unfold onChip; iexact Hm

/-- What is read of the final state on device `c`. -/
def reads (c : Dev nD) (s : MemSt nD τ sig (Elt F)) : Prop :=
  (∀ sm : SemLoc sig, sm.isScoped .tc = false → s.sem ((c.tc : Thread nD τ), sm) = 0)
    ∧ s.mem ((c : Thread nD τ).loc main_arg0) = A c ∧ s.mem ((c : Thread nD τ).loc main_v1) = goal A c

theorem read_end (s' : Phys nD τ sig (Elt F)) :
    iprop(ending A c ∗ emp ∗ SI s') ⊢ (|={Set.univ}=> iprop(⌜reads A c s'.mem⌝ ∗ SI s') : sProp 𝕄) := by
  have ha : iprop(argPts c Finset.univ fullShare.right (A c) ∗ SI s') ⊢ (iprop(⌜s'.mem.mem ((c : Thread nD τ).loc main_arg0) = A c⌝ ∗ SI s') : sProp 𝕄) := by
    have h := pointsTo_read_all (Ix := Unit) (Name := ℕ) (U := UU) (Lvl := ℕ) {()} (fun _ => (c : Thread nD τ).loc main_arg0) (fun _ => A c) s' fullShare.right
    rw [bigSep_singleton] at h
    refine h.trans ?_
    iintro ⟨%h, HS⟩
    isplitr; · ipureintro; exact h () (Finset.mem_singleton_self _)
    iexact HS
  have ho : iprop(outPts c Finset.univ fullShare.left (goal A c) ∗ SI s') ⊢ (iprop(⌜s'.mem.mem ((c : Thread nD τ).loc main_v1) = goal A c⌝ ∗ SI s') : sProp 𝕄) := by
    have h := pointsTo_read_all (Ix := Unit) (Name := ℕ) (U := UU) (Lvl := ℕ) {()} (fun _ => (c : Thread nD τ).loc main_v1) (fun _ => goal A c) s' fullShare.left
    rw [bigSep_singleton] at h
    refine h.trans ?_
    iintro ⟨%h, HS⟩
    isplitr; · ipureintro; exact h () (Finset.mem_singleton_self _)
    iexact HS
  unfold ending
  iintro ⟨⟨Hu, Harg, Hout⟩, -, HS⟩
  ihave H1 := ha $$ [Harg HS]
  · isplitl [Harg] <;> iassumption
  icases H1 with ⟨%h1, HS⟩
  ihave H2 := ho $$ [Hout HS]
  · isplitl [Hout] <;> iassumption
  icases H2 with ⟨%h2, HS⟩
  imod (Pipeline.unscopedSems0_read (X := unscopedSems0 c) (c := c) fupd_intro s') $$ [Hu HS] with H3
  · isplitl [Hu] <;> iassumption
  icases H3 with ⟨%h3, HS⟩
  imodintro
  isplitr; · ipureintro; exact ⟨h3, h1, h2⟩
  iexact HS

set_option maxRecDepth 65536 in
/-- For any float values, from any memory with all counters at zero: every weakly fair execution ends, with each
    device's argument unchanged, its result as `goal` says, and every counter at zero again. -/
theorem run_main : θ_run (defs (F := F)) (onTc (τ := τ) (main (F := F))) ⟨m, fun _ => 0, ρ⟩ (fun r =>
    (∀ c : Dev nD, r.2.mem ((c : Thread nD τ).loc main_arg0) = args m c ∧ r.2.mem ((c : Thread nD τ).loc main_v1) = goal (args m) c)
      ∧ r.2.sem = fun _ => 0) :=
  Pipeline.θ_run_region_owing_glob_pf (fun p => (cfgs p).toPCfg) (fun p => (cfgs p).toPCfg_adm) (dats (args m)) () Gen.cellOf_inj (0 : Fin 1)
    Gen.winFacts0.to₀ ownSemFacts (Pipeline.PreFacts.none _) EP defs₀ 𝒱₀ m ρ main
    (hmain := fun _ => rfl)
    (hbody := body_obligation (args m)) (hne := fun w => w.elim0) (harr := Gen.arr_whole0) (hstage := Gen.stage_whole0) (hshare := fun _ w => w.elim0)
    (hdistinct := Gen.winFacts0.arr_inj)
    (O₀ := fun c => oweAll c owed) (howed₀ := fun _ => rfl) (howedN := fun _ => rfl)
    (L := L) (lv := lv) (hL := L_of_ne) (hwaits := fun c => Pipeline.cellsWaits_intro cfgs (dats (args m)) () 0 c fun w => w.elim0)
    (G := G (args m)) (G' := G' (args m)) (u₀ := u₀)
    (hu₀ := by
      unfold u₀
      iintro Hu
      ihave H := (ownU_pair _ _) $$ Hu
      icases H with ⟨HP, HX⟩
      imod (fund_all (args m)) $$ HX with HG
      imodintro
      isplitl [HP] <;> iassumption)
    (hglob := glob (args m))
    (hA := fun _ w => w.elim0) (hpf := fun _ k => k.elim0)
    (X := entering (args m)) (Y := ending (args m)) (Z := fun _ => iprop(emp))
    (hX := fun c => enter c m ρ) (hin := start (args m)) (hout := leave (args m))
    (QY := reads (args m))
    (hY := read_end (args m))
    (hQ := fun _ h hs => ⟨fun c => (h c).2.2.2, sem_eq_zero hs fun c => (h c).2.2.1⟩)

end Cert.KernelIdeal.Gather
-- ==== Proof.Value.lean ====
/-
  The values: what the kernel leaves as its result on every device is the whole array of which each device was given
  its half, and that array is what the reference returns.
-/
module

public import proofs.«01_k».proof.Defs
public import proofs.«01_k».proof.Proof.Geometry
public import proofs.«01_k».proof.Proof.Gen.ReferenceIdeal
public import Idealize.ShloMosaic.Lib.Quiescent
public import Idealize.ShloMosaic.Lib.StableHlo.Run

@[expose] public section

noncomputable section

namespace Cert.KernelIdeal.Gather

open Idealize.ShloMosaic Idealize.ShloMosaic.TcCoe

variable {F : FTy → Type} [FloatOps F]

/-- The half a device is given of the whole array. -/
def half (w : S65536x1024.Idx → Elt F .f32) (d : Dev nD) : S32768x1024.Idx → Elt F .f32 :=
  Layout.blockN ⟨2, ![32768, 1024]⟩ ⟨2, ![65536, 1024]⟩ (Layout.meshBlock [2, 2, 2] ![[0], []] d) w

/-- It is the first half on the devices 0 to 3 and the second on the others. -/
theorem which_half : ∀ d : Dev nD, Layout.meshLin [2, 2, 2] d.val [0] = d.val / 4 := by decide

/-- Gathering the halves gives the whole array, on every device: each row comes from a device that was given it. -/
theorem goal_half (w : S65536x1024.Idx → Elt F .f32) (c : Dev nD) : goal (half w) c = w := by
  funext i
  have h0 : (i 0).val < 65536 := (i 0).isLt
  have hd : (srcDev c ((i 0).val / 512)).val / 4 = (i 0).val / 512 / 64 := srcDev_half c ⟨(i 0).val / 512, by omega⟩
  unfold goal half
  rw [Layout.blockN_apply]
  refine congrArg w (funext fun b => Fin.ext ?_)
  rw [Layout.TilesN.idx_val]
  fin_cases b
  · show Layout.meshLin [2, 2, 2] (srcDev c ((i 0).val / 512)).val [0] * 32768 + (i 0).val % 32768 = (i 0).val
    rw [which_half, hd]; omega
  · show 0 * 1024 + (i 1).val = (i 1).val
    rw [Nat.zero_mul, Nat.zero_add]

end Cert.KernelIdeal.Gather

namespace Cert.ReferenceIdeal.Plain

open Idealize.ShloMosaic Idealize.ShloMosaic.TcCoe Idealize.SL.Sem
open Cert.ReferenceIdeal

variable {F : FTy → Type} [FloatOps F]

/-- The reference returns its argument: it runs no operation, and leaves memory and counters as they are. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ d : Dev nD, r.2.mem ((d : Thread nD τ).loc main_arg0) = m ((d : Thread nD τ).loc main_arg0)) ∧ r.2.sem = fun _ => 0 :=
  (θ_run defs _ _).mono (fun r h => ⟨fun d => h d main_arg0, sem_eq_zero_of_no_sems rfl r.2⟩)
    (StableHlo.run_seq (by decide) (by decide) defs main (fun _ => []) (fun _ => rfl) (fun _ => trivial) m ρ)

end Cert.ReferenceIdeal.Plain
-- ==== Proof.lean ====
/-
  The certificate: an all-gather over one axis of a 2×2×2 mesh by remote copies, and the reference that returns its
  argument. Proof/Launch.lean is the run, for any float values; Proof/Value.lean says what it leaves. Here each claim is
  read off them.
-/
module

public import proofs.«01_k».proof.Defs
public import proofs.«01_k».proof.Proof.Gen.Kernel
public import proofs.«01_k».proof.Proof.Launch
public import proofs.«01_k».proof.Proof.Value

@[expose] public section

noncomputable section

namespace Cert.Proof

open Idealize.ShloMosaic Idealize.SL.Sem

/-- The kernel as printed has the same text as the idealized one: its run is that run, over bit patterns. -/
theorem frame_kernel : Cert.quiescent_Kernel := fun m ρ _ =>
  (θ_run Cert.KernelIdeal.defs _ _).mono (fun _ h => ⟨fun c => (h.1 c).1, h.2⟩) (Cert.KernelIdeal.Gather.run_main (F := Bits) m ρ)

theorem frame_kernelIdeal : Cert.quiescent_KernelIdeal := fun m ρ _ =>
  (θ_run Cert.KernelIdeal.defs _ _).mono (fun _ h => ⟨fun c => (h.1 c).1, h.2⟩) (Cert.KernelIdeal.Gather.run_main (F := Ideal) m ρ)

theorem frame_referenceIdeal : Cert.quiescent_ReferenceIdeal := fun m ρ _ => Cert.ReferenceIdeal.Plain.run_main (F := Ideal) m ρ

/-- Where each device is given its half of the reference's argument, every device's result is the reference's. -/
theorem same_function : Cert.algebraic_KernelIdeal_ReferenceIdeal := fun m ρ m' ρ' _ hin =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).2.trans ((congrArg (fun A => Cert.KernelIdeal.Gather.goal A c) (funext hin : Cert.KernelIdeal.Gather.args m = Cert.KernelIdeal.Gather.half _)).trans
        (Cert.KernelIdeal.Gather.goal_half _ c)), (h.1 c).1⟩)
      (Cert.KernelIdeal.Gather.run_main (F := Ideal) m ρ),
    (θ_run Cert.ReferenceIdeal.defs _ _).mono (fun _ h => ⟨h.1 0, h.1 0⟩) (Cert.ReferenceIdeal.Plain.run_main (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, same_function⟩

end Cert.Proof

end
